-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S1x256x64x64 : Shape := ⟨4, ![1, 256, 64, 64]⟩
abbrev S1x2 : Shape := ⟨2, ![1, 2]⟩
abbrev S8x1x256 : Shape := ⟨3, ![8, 1, 256]⟩
abbrev S_ : Shape := ⟨0, ![]⟩
abbrev S1x64x64 : Shape := ⟨3, ![1, 64, 64]⟩

class Facts : Prop where
  reducesTo_S1x256x64x64_S1x64x64_d1 : S1x256x64x64.ReducesTo [1] S1x64x64
  h_S_ : 0 < S_.numel
  bcast_S_S8x1x256 : S_.BroadcastsInDim S8x1x256 (![] : Fin 0 → Fin S8x1x256.rank)
  reducesTo_S8x1x256_S_d0_1_2 : S8x1x256.ReducesTo [0, 1, 2] S_
  bcast_S_S1x64x64 : S_.BroadcastsInDim S1x64x64 (![] : Fin 0 → Fin S1x64x64.rank)
  reducesTo_S1x64x64_S_d0_1_2 : S1x64x64.ReducesTo [0, 1, 2] S_

variable [Facts]

def fn {F : FTy → Type} [FloatOps F] (main_arg0 : FVec F S1x256x64x64 .f32) (main_arg1 : IVec S1x2 32) (main_arg2 : FVec F S8x1x256 .f32) : IVec S_ 1 :=
  let main_v0 : FVec F S1x256x64x64 .f32 := mulf main_arg0 main_arg0
  let main_cst : FVec F S_ .f32 := constant S_ .f32 0x00000000#32
  let main_v1 : FVec F S1x64x64 .f32 := (fun x v => Host.reduceAdd x v reducesTo_S1x256x64x64_S1x64x64_d1 h_S_) main_v0 main_cst
  let main_v2 : FVec F S8x1x256 .f32 := Host.absf main_arg2
  let main_cst_0 : FVec F S_ .f32 := constant S_ .f32 0x7F800000#32
  let main_v3 : FVec F S8x1x256 .f32 := broadcastInDim S8x1x256 ![] bcast_S_S8x1x256 main_cst_0
  let main_v4 : IVec S8x1x256 1 := cmpf .olt main_v2 main_v3
  let main_c : IVec S_ 1 := constantI S_ 1 1#1
  let main_v5 : IVec S_ 1 := (fun x v => Host.reduce IntOp.andi x v reducesTo_S8x1x256_S_d0_1_2 h_S_) main_v4 main_c
  let main_cst_1 : FVec F S_ .f32 := constant S_ .f32 0x00000000#32
  let main_v6 : FVec F S1x64x64 .f32 := broadcastInDim S1x64x64 ![] bcast_S_S1x64x64 main_cst_1
  let main_v7 : IVec S1x64x64 1 := cmpf .ogt main_v1 main_v6
  let main_c_2 : IVec S_ 1 := constantI S_ 1 1#1
  let main_v8 : IVec S_ 1 := (fun x v => Host.reduce IntOp.andi x v reducesTo_S1x64x64_S_d0_1_2 h_S_) main_v7 main_c_2
  let main_v9 : IVec S_ 1 := andi main_v5 main_v8
  main_v9
-- ==== Kernel.lean ====
abbrev S1x256x64x64 : Shape := ⟨4, ![1, 256, 64, 64]⟩
abbrev S1x2 : Shape := ⟨2, ![1, 2]⟩
abbrev S8x1x256 : Shape := ⟨3, ![8, 1, 256]⟩
abbrev S256x64 : Shape := ⟨2, ![256, 64]⟩
abbrev S64x256 : Shape := ⟨2, ![64, 256]⟩
abbrev S256x1 : Shape := ⟨2, ![256, 1]⟩
abbrev S1x256 : Shape := ⟨2, ![1, 256]⟩
abbrev S256x64x64 : Shape := ⟨3, ![256, 64, 64]⟩
abbrev S256x4096 : Shape := ⟨2, ![256, 4096]⟩
abbrev S8x256 : Shape := ⟨2, ![8, 256]⟩
abbrev S8x4096 : Shape := ⟨2, ![8, 4096]⟩
abbrev S4096 : Shape := ⟨1, ![4096]⟩
abbrev S1x4096 : Shape := ⟨2, ![1, 4096]⟩
abbrev S512x64 : Shape := ⟨2, ![512, 64]⟩
abbrev S24x256 : Shape := ⟨2, ![24, 256]⟩
abbrev S8x2 : Shape := ⟨2, ![8, 2]⟩
abbrev S512x256 : Shape := ⟨2, ![512, 256]⟩
abbrev S256x256 : Shape := ⟨2, ![256, 256]⟩
abbrev S256x16 : Shape := ⟨2, ![256, 16]⟩
abbrev S16x256 : Shape := ⟨2, ![16, 256]⟩
abbrev S16x16 : Shape := ⟨2, ![16, 16]⟩
abbrev S1x256x256 : Shape := ⟨3, ![1, 256, 256]⟩
abbrev S1 : Shape := ⟨1, ![1]⟩
abbrev S1x1x1 : Shape := ⟨3, ![1, 1, 1]⟩
abbrev S1x16 : Shape := ⟨2, ![1, 16]⟩
abbrev S256 : Shape := ⟨1, ![256]⟩
abbrev S3x256 : Shape := ⟨2, ![3, 256]⟩
abbrev S1x1 : Shape := ⟨2, ![1, 1]⟩
abbrev S8x3x256 : Shape := ⟨3, ![8, 3, 256]⟩
abbrev S8x256x3 : Shape := ⟨3, ![8, 256, 3]⟩
abbrev S8x1x2 : Shape := ⟨3, ![8, 1, 2]⟩

abbrev nBuf : Space → Nat
  | .hbm => 17
  | .vmem => 10
  | .smem => 0
  | _ => 0

abbrev bufTy : (tb : Table) → Fin (tcTables nBuf tb) → BufTy
  | .hbm, ⟨0, _⟩ => ⟨S1x256x64x64, .f32⟩
  | .hbm, ⟨1, _⟩ => ⟨S1x2, .i32⟩
  | .hbm, ⟨2, _⟩ => ⟨S8x1x256, .f32⟩
  | .hbm, ⟨3, _⟩ => ⟨S256x64, .f32⟩
  | .hbm, ⟨4, _⟩ => ⟨S64x256, .f32⟩
  | .hbm, ⟨5, _⟩ => ⟨S256x1, .i32⟩
  | .hbm, ⟨6, _⟩ => ⟨S1x256, .i32⟩
  | .hbm, ⟨7, _⟩ => ⟨S256x64x64, .f32⟩
  | .hbm, ⟨8, _⟩ => ⟨S256x4096, .f32⟩
  | .hbm, ⟨9, _⟩ => ⟨S8x256, .f32⟩
  | .hbm, ⟨10, _⟩ => ⟨S8x4096, .f32⟩
  | .hbm, ⟨11, _⟩ => ⟨S512x64, .f32⟩
  | .hbm, ⟨12, _⟩ => ⟨S24x256, .f32⟩
  | .hbm, ⟨13, _⟩ => ⟨S8x2, .f32⟩
  | .hbm, ⟨14, _⟩ => ⟨S8x3x256, .f32⟩
  | .hbm, ⟨15, _⟩ => ⟨S8x256x3, .f32⟩
  | .hbm, ⟨16, _⟩ => ⟨S8x1x2, .f32⟩
  | .local _ .vmem, ⟨0, _⟩ => ⟨S256x4096, .f32⟩
  | .local _ .vmem, ⟨1, _⟩ => ⟨S8x256, .f32⟩
  | .local _ .vmem, ⟨2, _⟩ => ⟨S8x4096, .f32⟩
  | .local _ .vmem, ⟨3, _⟩ => ⟨S512x64, .f32⟩
  | .local _ .vmem, ⟨4, _⟩ => ⟨S256x64, .f32⟩
  | .local _ .vmem, ⟨5, _⟩ => ⟨S64x256, .f32⟩
  | .local _ .vmem, ⟨6, _⟩ => ⟨S256x1, .i32⟩
  | .local _ .vmem, ⟨7, _⟩ => ⟨S1x256, .i32⟩
  | .local _ .vmem, ⟨8, _⟩ => ⟨S24x256, .f32⟩
  | .local _ .vmem, ⟨9, _⟩ => ⟨S8x2, .f32⟩
  | _, _ => ⟨S1x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_c : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9

abbrev nD : Nat := 1
abbrev τ : Topo := Topo.v7x

variable {F : FTy → Type} [FloatOps F]

abbrev grid0 : Pipeline.Grid := .none

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

abbrev stage1_0 : Fin 1 → Memref sig .tc .vmem S512x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S256x1 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x256 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S24x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S8x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
-- ==== ReferenceIdeal.lean ====
abbrev S1x256x64x64 : Shape := ⟨4, ![1, 256, 64, 64]⟩
abbrev S1x2 : Shape := ⟨2, ![1, 2]⟩
abbrev S8x1x256 : Shape := ⟨3, ![8, 1, 256]⟩
abbrev S256x64x64 : Shape := ⟨3, ![256, 64, 64]⟩
abbrev S_ : Shape := ⟨0, ![]⟩
abbrev S64x64 : Shape := ⟨2, ![64, 64]⟩
abbrev S1x64x64 : Shape := ⟨3, ![1, 64, 64]⟩
abbrev S256x4096 : Shape := ⟨2, ![256, 4096]⟩
abbrev S8x256 : Shape := ⟨2, ![8, 256]⟩
abbrev S8x4096 : Shape := ⟨2, ![8, 4096]⟩
abbrev S8x64x64 : Shape := ⟨3, ![8, 64, 64]⟩
abbrev S1024 : Shape := ⟨1, ![1024]⟩
abbrev S1024x1 : Shape := ⟨2, ![1024, 1]⟩
abbrev S64 : Shape := ⟨1, ![64]⟩
abbrev S1x64 : Shape := ⟨2, ![1, 64]⟩
abbrev S1024x64 : Shape := ⟨2, ![1024, 64]⟩
abbrev S8x64x1024 : Shape := ⟨3, ![8, 64, 1024]⟩
abbrev S8x1024x1024 : Shape := ⟨3, ![8, 1024, 1024]⟩
abbrev S8x1048576 : Shape := ⟨2, ![8, 1048576]⟩
abbrev S8x1 : Shape := ⟨2, ![8, 1]⟩
abbrev S8x1x1 : Shape := ⟨3, ![8, 1, 1]⟩
abbrev S8x1x2 : Shape := ⟨3, ![8, 1, 2]⟩
abbrev S1048576 : Shape := ⟨1, ![1048576]⟩
abbrev S16x64x16x64 : Shape := ⟨4, ![16, 64, 16, 64]⟩
abbrev S8x16x64x16x64 : Shape := ⟨5, ![8, 16, 64, 16, 64]⟩
abbrev S8x16x16 : Shape := ⟨3, ![8, 16, 16]⟩
abbrev S8x16x1x16x1 : Shape := ⟨5, ![8, 16, 1, 16, 1]⟩
abbrev S8x256x1 : Shape := ⟨3, ![8, 256, 1]⟩
abbrev S1 : Shape := ⟨1, ![1]⟩
abbrev S1x1x1 : Shape := ⟨3, ![1, 1, 1]⟩
abbrev S8x256x3 : Shape := ⟨3, ![8, 256, 3]⟩
abbrev S256x3 : Shape := ⟨2, ![256, 3]⟩
abbrev S256 : Shape := ⟨1, ![256]⟩

abbrev nBuf : Space → Nat
  | .hbm => 220
  | .vmem => 0
  | .smem => 0
  | _ => 0

abbrev hbmTy0_0 (i : Nat) : BufTy := match i % 128 with
  | 0 => ⟨S1x256x64x64, .f32⟩
  | 1 => ⟨S1x2, .i32⟩
  | 2 => ⟨S8x1x256, .f32⟩
  | 3 => ⟨S256x64x64, .f32⟩
  | 4 => ⟨S256x64x64, .f32⟩
  | 5 => ⟨S_, .f32⟩
  | 6 => ⟨S64x64, .f32⟩
  | 7 => ⟨S1x64x64, .f32⟩
  | 8 => ⟨S1x64x64, .f32⟩
  | 9 => ⟨S256x64x64, .f32⟩
  | 10 => ⟨S256x64x64, .f32⟩
  | 11 => ⟨S256x4096, .f32⟩
  | 12 => ⟨S8x256, .f32⟩
  | 13 => ⟨S8x4096, .f32⟩
  | 14 => ⟨S8x64x64, .f32⟩
  | 15 => ⟨S1024, .f32⟩
  | 16 => ⟨S_, .f32⟩
  | 17 => ⟨S1024, .f32⟩
  | 18 => ⟨S1024, .f32⟩
  | 19 => ⟨S_, .f32⟩
  | 20 => ⟨S1024, .f32⟩
  | 21 => ⟨S1024, .f32⟩
  | 22 => ⟨S_, .f32⟩
  | 23 => ⟨S1024, .f32⟩
  | 24 => ⟨S1024, .f32⟩
  | 25 => ⟨S1024x1, .f32⟩
  | 26 => ⟨S64, .f32⟩
  | 27 => ⟨S1x64, .f32⟩
  | 28 => ⟨S1024x64, .f32⟩
  | 29 => ⟨S1024x64, .f32⟩
  | 30 => ⟨S1024x64, .f32⟩
  | 31 => ⟨S1024x64, .f32⟩
  | 32 => ⟨S_, .f32⟩
  | 33 => ⟨S1024x64, .f32⟩
  | 34 => ⟨S1024x64, .f32⟩
  | 35 => ⟨S_, .f32⟩
  | 36 => ⟨S1024x64, .f32⟩
  | 37 => ⟨S1024x64, .f32⟩
  | 38 => ⟨S_, .f32⟩
  | 39 => ⟨S1024, .f32⟩
  | 40 => ⟨S1024x1, .f32⟩
  | 41 => ⟨S1024x64, .f32⟩
  | 42 => ⟨S1024x64, .f32⟩
  | 43 => ⟨S8x64x1024, .f32⟩
  | 44 => ⟨S8x1024x1024, .f32⟩
  | 45 => ⟨S8x1048576, .f32⟩
  | 46 => ⟨S8x1048576, .f32⟩
  | 47 => ⟨S8x1, .f32⟩
  | 48 => ⟨S8x1, .i32⟩
  | 49 => ⟨S_, .i32⟩
  | 50 => ⟨S_, .i32⟩
  | 51 => ⟨S8x1, .i32⟩
  | 52 => ⟨S8x1, .i32⟩
  | 53 => ⟨S8x1, .i32⟩
  | 54 => ⟨S_, .i32⟩
  | 55 => ⟨S8x1, .i32⟩
  | 56 => ⟨S8x1, .i1⟩
  | 57 => ⟨S8x1, .i32⟩
  | 58 => ⟨S8x1, .i32⟩
  | 59 => ⟨S_, .i32⟩
  | 60 => ⟨S8x1, .i32⟩
  | 61 => ⟨S8x1, .i1⟩
  | 62 => ⟨S8x1, .i1⟩
  | 63 => ⟨S_, .i32⟩
  | 64 => ⟨S8x1, .i32⟩
  | 65 => ⟨S8x1, .i32⟩
  | 66 => ⟨S8x1, .i32⟩
  | 67 => ⟨S_, .i32⟩
  | 68 => ⟨S8x1, .i32⟩
  | 69 => ⟨S8x1, .i32⟩
  | 70 => ⟨S8x1, .i32⟩
  | 71 => ⟨S8x1x1, .i32⟩
  | 72 => ⟨S8x1x1, .i32⟩
  | 73 => ⟨S8x1x2, .i32⟩
  | 74 => ⟨S8x1x2, .f32⟩
  | 75 => ⟨S1048576, .i32⟩
  | 76 => ⟨S16x64x16x64, .i32⟩
  | 77 => ⟨S8x16x64x16x64, .f32⟩
  | 78 => ⟨S_, .f32⟩
  | 79 => ⟨S8x16x64x16x64, .f32⟩
  | 80 => ⟨S8x16x64x16x64, .i1⟩
  | 81 => ⟨S_, .f32⟩
  | 82 => ⟨S_, .f32⟩
  | 83 => ⟨S16x64x16x64, .f32⟩
  | 84 => ⟨S8x16x64x16x64, .f32⟩
  | 85 => ⟨S8x16x64x16x64, .f32⟩
  | 86 => ⟨S_, .f32⟩
  | 87 => ⟨S8x16x16, .f32⟩
  | 88 => ⟨S8x16x1x16x1, .f32⟩
  | 89 => ⟨S8x16x64x16x64, .f32⟩
  | 90 => ⟨S8x16x64x16x64, .i1⟩
  | 91 => ⟨S_, .i32⟩
  | 92 => ⟨S16x64x16x64, .i32⟩
  | 93 => ⟨S8x16x64x16x64, .i32⟩
  | 94 => ⟨S8x16x64x16x64, .i32⟩
  | 95 => ⟨S8x16x64x16x64, .i32⟩
  | 96 => ⟨S_, .i32⟩
  | 97 => ⟨S8x16x16, .i32⟩
  | 98 => ⟨S8x256, .i32⟩
  | 99 => ⟨S8x16x16, .f32⟩
  | 100 => ⟨S_, .f32⟩
  | 101 => ⟨S8x16x16, .f32⟩
  | 102 => ⟨S8x16x16, .i1⟩
  | 103 => ⟨S8x256, .i1⟩
  | 104 => ⟨S_, .i32⟩
  | 105 => ⟨S_, .i32⟩
  | 106 => ⟨S_, .i32⟩
  | 107 => ⟨S8x256, .i32⟩
  | 108 => ⟨S8x256, .i32⟩
  | 109 => ⟨S_, .i32⟩
  | 110 => ⟨S8x256, .i32⟩
  | 111 => ⟨S8x256, .i32⟩
  | 112 => ⟨S_, .i32⟩
  | 113 => ⟨S8x256, .i32⟩
  | 114 => ⟨S8x256, .i1⟩
  | 115 => ⟨S_, .i32⟩
  | 116 => ⟨S8x256, .i32⟩
  | 117 => ⟨S8x256, .i32⟩
  | 118 => ⟨S8x256, .i32⟩
  | 119 => ⟨S8x256x1, .i32⟩
  | 120 => ⟨S1, .i32⟩
  | 121 => ⟨S_, .i32⟩
  | 122 => ⟨S8x256x1, .i32⟩
  | 123 => ⟨S8x256x1, .i1⟩
  | 124 => ⟨S1x1x1, .i32⟩
  | 125 => ⟨S8x256x1, .i32⟩
  | 126 => ⟨S8x256x1, .i1⟩
  | 127 => ⟨S8x256x1, .i1⟩
  | _ => ⟨S1x256x64x64, .f32⟩

abbrev hbmTy0_1 (i : Nat) : BufTy := match i % 128 with
  | 0 => ⟨S_, .i1⟩
  | 1 => ⟨S8x256, .i1⟩
  | 2 => ⟨S8x256, .f32⟩
  | 3 => ⟨S_, .f32⟩
  | 4 => ⟨S8x256, .f32⟩
  | 5 => ⟨S8x256, .f32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S8x256, .i32⟩
  | 13 => ⟨S8x256, .i32⟩
  | 14 => ⟨S_, .i32⟩
  | 15 => ⟨S8x256, .i32⟩
  | 16 => ⟨S8x256, .i1⟩
  | 17 => ⟨S_, .i32⟩
  | 18 => ⟨S8x256, .i32⟩
  | 19 => ⟨S8x256, .i1⟩
  | 20 => ⟨S_, .i32⟩
  | 21 => ⟨S_, .i1⟩
  | 22 => ⟨S8x256, .i1⟩
  | 23 => ⟨S8x256, .i1⟩
  | 24 => ⟨S8x256, .i1⟩
  | 25 => ⟨S8x256, .i32⟩
  | 26 => ⟨S8x256, .i32⟩
  | 27 => ⟨S8x256, .i32⟩
  | 28 => ⟨S8x256, .f32⟩
  | 29 => ⟨S_, .i32⟩
  | 30 => ⟨S_, .i32⟩
  | 31 => ⟨S8x256, .i32⟩
  | 32 => ⟨S8x256, .i32⟩
  | 33 => ⟨S8x256, .i32⟩
  | 34 => ⟨S_, .i32⟩
  | 35 => ⟨S8x256, .i32⟩
  | 36 => ⟨S8x256, .i1⟩
  | 37 => ⟨S8x256, .i32⟩
  | 38 => ⟨S8x256, .i32⟩
  | 39 => ⟨S_, .i32⟩
  | 40 => ⟨S8x256, .i32⟩
  | 41 => ⟨S8x256, .i1⟩
  | 42 => ⟨S8x256, .i1⟩
  | 43 => ⟨S_, .i32⟩
  | 44 => ⟨S8x256, .i32⟩
  | 45 => ⟨S8x256, .i32⟩
  | 46 => ⟨S8x256, .i32⟩
  | 47 => ⟨S8x256, .f32⟩
  | 48 => ⟨S8x256x1, .f32⟩
  | 49 => ⟨S8x256x1, .f32⟩
  | 50 => ⟨S8x256x1, .f32⟩
  | 51 => ⟨S8x256x3, .f32⟩
  | 52 => ⟨S8x256x1, .i1⟩
  | 53 => ⟨S_, .f32⟩
  | 54 => ⟨S_, .f32⟩
  | 55 => ⟨S8x256x3, .i1⟩
  | 56 => ⟨S256x3, .f32⟩
  | 57 => ⟨S8x256x3, .f32⟩
  | 58 => ⟨S8x256x3, .f32⟩
  | 59 => ⟨S_, .f32⟩
  | 60 => ⟨S_, .f32⟩
  | 61 => ⟨S256, .f32⟩
  | 62 => ⟨S8x256, .f32⟩
  | 63 => ⟨S8x256, .f32⟩
  | 64 => ⟨S8x256, .f32⟩
  | 65 => ⟨S256, .i32⟩
  | 66 => ⟨S8x256, .i32⟩
  | 67 => ⟨S8x256, .f32⟩
  | 68 => ⟨S8x256, .i32⟩
  | 69 => ⟨S_, .i32⟩
  | 70 => ⟨S8x256, .i32⟩
  | 71 => ⟨S8x256, .i1⟩
  | 72 => ⟨S_, .i32⟩
  | 73 => ⟨S8x256, .i32⟩
  | 74 => ⟨S8x256, .i32⟩
  | 75 => ⟨S8x256, .i32⟩
  | 76 => ⟨S8x256x1, .i32⟩
  | 77 => ⟨S1, .i32⟩
  | 78 => ⟨S_, .i32⟩
  | 79 => ⟨S8x256x1, .i32⟩
  | 80 => ⟨S8x256x1, .i1⟩
  | 81 => ⟨S1x1x1, .i32⟩
  | 82 => ⟨S8x256x1, .i32⟩
  | 83 => ⟨S8x256x1, .i1⟩
  | 84 => ⟨S8x256x1, .i1⟩
  | 85 => ⟨S_, .i1⟩
  | 86 => ⟨S8x256, .i1⟩
  | 87 => ⟨S8x256x3, .f32⟩
  | 88 => ⟨S8x256x3, .i1⟩
  | 89 => ⟨S_, .f32⟩
  | 90 => ⟨S8x256x3, .f32⟩
  | 91 => ⟨S8x256x3, .f32⟩
  | _ => ⟨S1x256x64x64, .f32⟩

abbrev hbmTy (i : Nat) : BufTy := match i / 128 with
  | 0 => hbmTy0_0 i
  | 1 => hbmTy0_1 i
  | _ => ⟨S1x256x64x64, .f32⟩

abbrev bufTy : (tb : Table) → Fin (tcTables nBuf tb) → BufTy
  | .hbm, ⟨i, _⟩ => hbmTy i
  | _, _ => ⟨S1x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_values : Ref sig .tc := ⟨.hbm, 47, rfl⟩
abbrev main_indices : Ref sig .tc := ⟨.hbm, 48, rfl⟩
abbrev main_c : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_c : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_0 : Ref sig .tc := ⟨.hbm, 63, rfl⟩
abbrev main_call1_v12 : Ref sig .tc := ⟨.hbm, 64, rfl⟩
abbrev main_call1_v13 : Ref sig .tc := ⟨.hbm, 65, rfl⟩
abbrev main_v34 : Ref sig .tc := ⟨.hbm, 66, rfl⟩
abbrev main_c_5 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_6 : Ref sig .tc := ⟨.hbm, 78, rfl⟩
abbrev main_v45 : Ref sig .tc := ⟨.hbm, 79, rfl⟩
abbrev main_v46 : Ref sig .tc := ⟨.hbm, 80, rfl⟩
abbrev main_cst_7 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v47 : Ref sig .tc := ⟨.hbm, 85, rfl⟩
abbrev main_cst_8 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_c_9 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v52 : Ref sig .tc := ⟨.hbm, 95, rfl⟩
abbrev main_c_10 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_11 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_c_12 : Ref sig .tc := ⟨.hbm, 104, rfl⟩
abbrev main_c_13 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_v59 : Ref sig .tc := ⟨.hbm, 111, rfl⟩
abbrev main_call5_c : Ref sig .tc := ⟨.hbm, 112, rfl⟩
abbrev main_call5_v0 : Ref sig .tc := ⟨.hbm, 113, rfl⟩
abbrev main_call5_v1 : Ref sig .tc := ⟨.hbm, 114, rfl⟩
abbrev main_call5_c_0 : Ref sig .tc := ⟨.hbm, 115, rfl⟩
abbrev main_call5_v2 : Ref sig .tc := ⟨.hbm, 116, rfl⟩
abbrev main_call5_v3 : Ref sig .tc := ⟨.hbm, 117, rfl⟩
abbrev main_call5_v4 : Ref sig .tc := ⟨.hbm, 118, rfl⟩
abbrev main_call5_v5 : Ref sig .tc := ⟨.hbm, 119, rfl⟩
abbrev main_call5_c_1 : Ref sig .tc := ⟨.hbm, 120, rfl⟩
abbrev main_call5_c_2 : Ref sig .tc := ⟨.hbm, 121, rfl⟩
abbrev main_call5_v6 : Ref sig .tc := ⟨.hbm, 122, rfl⟩
abbrev main_call5_v7 : Ref sig .tc := ⟨.hbm, 123, rfl⟩
abbrev main_call5_v8 : Ref sig .tc := ⟨.hbm, 124, rfl⟩
abbrev main_call5_v9 : Ref sig .tc := ⟨.hbm, 125, rfl⟩
abbrev main_call5_v10 : Ref sig .tc := ⟨.hbm, 126, rfl⟩
abbrev main_call5_v11 : Ref sig .tc := ⟨.hbm, 127, rfl⟩
abbrev main_call5_c_3 : Ref sig .tc := ⟨.hbm, 128, rfl⟩
abbrev main_call5_v12 : Ref sig .tc := ⟨.hbm, 129, rfl⟩
abbrev main_call5_v13 : Ref sig .tc := ⟨.hbm, 130, rfl⟩
abbrev main_call5_cst : Ref sig .tc := ⟨.hbm, 131, rfl⟩
abbrev main_call5_v14 : Ref sig .tc := ⟨.hbm, 132, rfl⟩
abbrev main_v60 : Ref sig .tc := ⟨.hbm, 133, rfl⟩
abbrev main_c_14 : Ref sig .tc := ⟨.hbm, 134, rfl⟩
abbrev main_call6_v0 : Ref sig .tc := ⟨.hbm, 135, rfl⟩
abbrev main_call6_c : Ref sig .tc := ⟨.hbm, 136, rfl⟩
abbrev main_call6_v1 : Ref sig .tc := ⟨.hbm, 137, rfl⟩
abbrev main_call6_c_0 : Ref sig .tc := ⟨.hbm, 138, rfl⟩
abbrev main_call6_v2 : Ref sig .tc := ⟨.hbm, 139, rfl⟩
abbrev main_call6_v3 : Ref sig .tc := ⟨.hbm, 140, rfl⟩
abbrev main_call6_v4 : Ref sig .tc := ⟨.hbm, 141, rfl⟩
abbrev main_call6_c_1 : Ref sig .tc := ⟨.hbm, 142, rfl⟩
abbrev main_call6_v5 : Ref sig .tc := ⟨.hbm, 143, rfl⟩
abbrev main_call6_v6 : Ref sig .tc := ⟨.hbm, 144, rfl⟩
abbrev main_call6_c_2 : Ref sig .tc := ⟨.hbm, 145, rfl⟩
abbrev main_call6_v7 : Ref sig .tc := ⟨.hbm, 146, rfl⟩
abbrev main_call6_v8 : Ref sig .tc := ⟨.hbm, 147, rfl⟩
abbrev main_call6_c_3 : Ref sig .tc := ⟨.hbm, 148, rfl⟩
abbrev main_call6_v9 : Ref sig .tc := ⟨.hbm, 149, rfl⟩
abbrev main_call6_v10 : Ref sig .tc := ⟨.hbm, 150, rfl⟩
abbrev main_call6_v11 : Ref sig .tc := ⟨.hbm, 151, rfl⟩
abbrev main_call6_v12 : Ref sig .tc := ⟨.hbm, 152, rfl⟩
abbrev main_call6_v13 : Ref sig .tc := ⟨.hbm, 153, rfl⟩
abbrev main_call6_v14 : Ref sig .tc := ⟨.hbm, 154, rfl⟩
abbrev main_v61 : Ref sig .tc := ⟨.hbm, 155, rfl⟩
abbrev main_v62 : Ref sig .tc := ⟨.hbm, 156, rfl⟩
abbrev main_c_15 : Ref sig .tc := ⟨.hbm, 157, rfl⟩
abbrev main_call7_v0 : Ref sig .tc := ⟨.hbm, 158, rfl⟩
abbrev main_call7_v1 : Ref sig .tc := ⟨.hbm, 159, rfl⟩
abbrev main_call7_v2 : Ref sig .tc := ⟨.hbm, 160, rfl⟩
abbrev main_call7_v3 : Ref sig .tc := ⟨.hbm, 161, rfl⟩
abbrev main_call7_v4 : Ref sig .tc := ⟨.hbm, 162, rfl⟩
abbrev main_call7_v5 : Ref sig .tc := ⟨.hbm, 163, rfl⟩
abbrev main_call7_v6 : Ref sig .tc := ⟨.hbm, 164, rfl⟩
abbrev main_call7_v7 : Ref sig .tc := ⟨.hbm, 165, rfl⟩
abbrev main_call7_v8 : Ref sig .tc := ⟨.hbm, 166, rfl⟩
abbrev main_call7_c : Ref sig .tc := ⟨.hbm, 167, rfl⟩
abbrev main_call7_v9 : Ref sig .tc := ⟨.hbm, 168, rfl⟩
abbrev main_call7_v10 : Ref sig .tc := ⟨.hbm, 169, rfl⟩
abbrev main_call7_v11 : Ref sig .tc := ⟨.hbm, 170, rfl⟩
abbrev main_call7_c_0 : Ref sig .tc := ⟨.hbm, 171, rfl⟩
abbrev main_call7_v12 : Ref sig .tc := ⟨.hbm, 172, rfl⟩
abbrev main_call7_v13 : Ref sig .tc := ⟨.hbm, 173, rfl⟩
abbrev main_v63 : Ref sig .tc := ⟨.hbm, 174, rfl⟩
abbrev main_v64 : Ref sig .tc := ⟨.hbm, 175, rfl⟩
abbrev main_v65 : Ref sig .tc := ⟨.hbm, 176, rfl⟩
abbrev main_v66 : Ref sig .tc := ⟨.hbm, 177, rfl⟩
abbrev main_v67 : Ref sig .tc := ⟨.hbm, 178, rfl⟩
abbrev main_v68 : Ref sig .tc := ⟨.hbm, 179, rfl⟩
abbrev main_v69 : Ref sig .tc := ⟨.hbm, 180, rfl⟩
abbrev main_cst_16 : Ref sig .tc := ⟨.hbm, 181, rfl⟩
abbrev main_call8_v0 : Ref sig .tc := ⟨.hbm, 182, rfl⟩
abbrev main_call8_v1 : Ref sig .tc := ⟨.hbm, 183, rfl⟩
abbrev main_call8_v2 : Ref sig .tc := ⟨.hbm, 184, rfl⟩
abbrev main_call8_v3 : Ref sig .tc := ⟨.hbm, 185, rfl⟩
abbrev main_v70 : Ref sig .tc := ⟨.hbm, 186, rfl⟩
abbrev main_cst_17 : Ref sig .tc := ⟨.hbm, 187, rfl⟩
abbrev main_call9_v0 : Ref sig .tc := ⟨.hbm, 188, rfl⟩
abbrev main_call9_v1 : Ref sig .tc := ⟨.hbm, 189, rfl⟩
abbrev main_call9_v2 : Ref sig .tc := ⟨.hbm, 190, rfl⟩
abbrev main_v71 : Ref sig .tc := ⟨.hbm, 191, rfl⟩
abbrev main_v72 : Ref sig .tc := ⟨.hbm, 192, rfl⟩
abbrev main_call10_v0 : Ref sig .tc := ⟨.hbm, 193, rfl⟩
abbrev main_call10_v1 : Ref sig .tc := ⟨.hbm, 194, rfl⟩
abbrev main_call10_v2_0 : Ref sig .tc := ⟨.hbm, 195, rfl⟩
abbrev main_v73 : Ref sig .tc := ⟨.hbm, 196, rfl⟩
abbrev main_call11_c : Ref sig .tc := ⟨.hbm, 197, rfl⟩
abbrev main_call11_v0 : Ref sig .tc := ⟨.hbm, 198, rfl⟩
abbrev main_call11_v1 : Ref sig .tc := ⟨.hbm, 199, rfl⟩
abbrev main_call11_c_0 : Ref sig .tc := ⟨.hbm, 200, rfl⟩
abbrev main_call11_v2 : Ref sig .tc := ⟨.hbm, 201, rfl⟩
abbrev main_call11_v3 : Ref sig .tc := ⟨.hbm, 202, rfl⟩
abbrev main_call11_v4 : Ref sig .tc := ⟨.hbm, 203, rfl⟩
abbrev main_call11_v5 : Ref sig .tc := ⟨.hbm, 204, rfl⟩
abbrev main_call11_c_1 : Ref sig .tc := ⟨.hbm, 205, rfl⟩
abbrev main_call11_c_2 : Ref sig .tc := ⟨.hbm, 206, rfl⟩
abbrev main_call11_v6 : Ref sig .tc := ⟨.hbm, 207, rfl⟩
abbrev main_call11_v7 : Ref sig .tc := ⟨.hbm, 208, rfl⟩
abbrev main_call11_v8 : Ref sig .tc := ⟨.hbm, 209, rfl⟩
abbrev main_call11_v9 : Ref sig .tc := ⟨.hbm, 210, rfl⟩
abbrev main_call11_v10 : Ref sig .tc := ⟨.hbm, 211, rfl⟩
abbrev main_call11_v11 : Ref sig .tc := ⟨.hbm, 212, rfl⟩
abbrev main_call11_c_3 : Ref sig .tc := ⟨.hbm, 213, rfl⟩
abbrev main_call11_v12 : Ref sig .tc := ⟨.hbm, 214, rfl⟩
abbrev main_call11_v13 : Ref sig .tc := ⟨.hbm, 215, rfl⟩
abbrev main_call11_v14 : Ref sig .tc := ⟨.hbm, 216, rfl⟩
abbrev main_call11_cst : Ref sig .tc := ⟨.hbm, 217, rfl⟩
abbrev main_call11_v15 : Ref sig .tc := ⟨.hbm, 218, rfl⟩
abbrev main_v74 : Ref sig .tc := ⟨.hbm, 219, rfl⟩

abbrev nD : Nat := 1
abbrev τ : Topo := Topo.v7x

variable {F : FTy → Type} [FloatOps F]
-- ==== Proof.Label.lean ====
/- What the kernel computes for one label, written once as a function of the label's map of candidates; each of the
   eight labels' printed stores is that function at its own map. -/
module

public import proofs.«01_k».proof.Proof.Gen.KernelIdeal.Frame
public import Idealize.ShloMosaic.Lib.Pointwise

@[expose] public section

noncomputable section

namespace Cert.Proof

open Idealize.ShloMosaic Cert.KernelIdeal Cert.KernelIdeal.Gen

variable {F : FTy → Type} [FloatOps F]

theorem sl_row (k : Fin 16) : S256x256.Slices ![16 * (k : ℕ), 0] S16x256 := by revert k; decide
theorem sl_col (k : Fin 16) : S16x256.Slices ![0, 16 * (k : ℕ)] S16x16 := by revert k; decide
theorem sl_lab (l : Fin 8) : S512x256.Slices ![64 * (l : ℕ), 0] S64x256 := by revert l; decide

/-- The places of a cell after the first. -/
def later : List (Fin 16) :=
  [⟨1, by decide⟩, ⟨2, by decide⟩, ⟨3, by decide⟩, ⟨4, by decide⟩, ⟨5, by decide⟩, ⟨6, by decide⟩, ⟨7, by decide⟩, ⟨8, by decide⟩,
    ⟨9, by decide⟩, ⟨10, by decide⟩, ⟨11, by decide⟩, ⟨12, by decide⟩, ⟨13, by decide⟩, ⟨14, by decide⟩, ⟨15, by decide⟩]

/-- Rows `16 k` to `16 k + 15`. -/
def rowsAt {α : Type} (c : S256x256.Idx → α) (k : Fin 16) : S16x256.Idx → α :=
  extractStridedSlice S16x256 ![16 * (k : ℕ), 0] c (sl_row k)
/-- Columns `16 k` to `16 k + 15`. -/
def colsAt {α : Type} (c : S16x256.Idx → α) (k : Fin 16) : S16x16.Idx → α :=
  extractStridedSlice S16x16 ![0, 16 * (k : ℕ)] c (sl_col k)

/-- Sixteen parts joined by an operation, from the left. -/
def join16 {α : Type} (op : α → α → α) (f : Fin 16 → α) : α := later.foldl (fun s k => op s (f k)) (f ⟨0, by decide⟩)

/-- The label's map at the candidates. -/
def lC (z : FVec F S512x256 .f32) (w : FVec F S256x64 .f32) (l : Fin 8) : FVec F S256x256 .f32 :=
  matmul dot_S256x64_S64x256_S256x256_1_0_0_1_n_n (some .fp32) w (extractStridedSlice S64x256 ![64 * (l : ℕ), 0] z (sl_lab l))
    (constant S256x256 .f32 0x00000000#32)

/-- The greatest value of each cell. -/
def lM (c : FVec F S256x256 .f32) : FVec F S16x16 .f32 := join16 maximumf (colsAt (join16 maximumf (rowsAt c)))

/-- The index where the cell's greatest value is taken, and a large number elsewhere. -/
def lFm (c : FVec F S256x256 .f32) (fidx : IVec S256x256 32) : IVec S256x256 32 :=
  let m := lM c
  let r := concatenate S256x16 0 [⟨S16x16, m⟩, ⟨S16x16, m⟩, ⟨S16x16, m⟩, ⟨S16x16, m⟩, ⟨S16x16, m⟩, ⟨S16x16, m⟩, ⟨S16x16, m⟩, ⟨S16x16, m⟩, ⟨S16x16, m⟩, ⟨S16x16, m⟩, ⟨S16x16, m⟩, ⟨S16x16, m⟩, ⟨S16x16, m⟩, ⟨S16x16, m⟩, ⟨S16x16, m⟩, ⟨S16x16, m⟩]
    concatenates_S16x16_S16x16_S16x16_S16x16_S16x16_S16x16_S16x16_S16x16_S16x16_S16x16_S16x16_S16x16_S16x16_S16x16_S16x16_S16x16_S256x16_d0
  let t := concatenate S256x256 1 [⟨S256x16, r⟩, ⟨S256x16, r⟩, ⟨S256x16, r⟩, ⟨S256x16, r⟩, ⟨S256x16, r⟩, ⟨S256x16, r⟩, ⟨S256x16, r⟩, ⟨S256x16, r⟩, ⟨S256x16, r⟩, ⟨S256x16, r⟩, ⟨S256x16, r⟩, ⟨S256x16, r⟩, ⟨S256x16, r⟩, ⟨S256x16, r⟩, ⟨S256x16, r⟩, ⟨S256x16, r⟩]
    concatenates_S256x16_S256x16_S256x16_S256x16_S256x16_S256x16_S256x16_S256x16_S256x16_S256x16_S256x16_S256x16_S256x16_S256x16_S256x16_S256x16_S256x256_d1
  select (cmpf .oeq c t) fidx (broadcast S256x256 1073741824#32)

/-- The least index of each cell's greatest value. -/
def lI (c : FVec F S256x256 .f32) (fidx : IVec S256x256 32) : IVec S16x16 32 :=
  join16 minsi (colsAt (join16 minsi (rowsAt (lFm c fidx))))

/-- The cells' greatest values in one row. -/
def lKey (m : FVec F S16x16 .f32) : FVec F S1x256 .f32 :=
  k1_pay21 m (k1_pay16 m) (k1_pay17 m) (k1_pay18 m) (k1_pay19 m) (k1_pay20 m)
/-- Which of them are above the threshold. -/
def lValid (m : FVec F S16x16 .f32) : IVec S1x256 1 :=
  k1_pay23 m (k1_pay16 m) (k1_pay17 m) (k1_pay18 m) (k1_pay19 m) (k1_pay20 m)
/-- The matrix that carries each cell to its rank. -/
def lPerm (ii jj : IVec S256x256 32) (esel lsel : FVec F S256x16 .f32) (m : FVec F S16x16 .f32) : FVec F S256x256 .f32 :=
  k1_pay25 jj (k1_pay24 ii jj esel lsel m (k1_pay16 m) (k1_pay17 m) (k1_pay18 m) (k1_pay19 m) (k1_pay20 m))

/-- The label's points. -/
def lPts (fidx ii jj : IVec S256x256 32) (esel lsel : FVec F S256x16 .f32) (c : FVec F S256x256 .f32) : FVec F S3x256 .f32 :=
  k1_pay30 (lKey (lM c)) (lValid (lM c)) (lPerm ii jj esel lsel (lM c)) (k1_pay26 (k1_pay22 (lI c fidx)) (lValid (lM c)))
    (k1_pay27 (k1_pay22 (lI c fidx))) (k1_pay28 (k1_pay22 (lI c fidx))) (k1_pay29 (k1_pay22 (lI c fidx)))

/-- The label's background point. -/
def lBg (fidx : IVec S256x256 32) (c : FVec F S256x256 .f32) : FVec F S1x2 .f32 :=
  k1_pay57 (F := F) (extractAt ![0, 0, 0] (k1_pay15 fidx c) inpos_S1x1x1_p0_0_0)

variable (x0 : Vec F S512x64 .f32) (x1 : Vec F S256x64 .f32) (x2 : Vec F S64x256 .f32) (x3 : Vec F S256x1 .i32) (x4 : Vec F S1x256 .i32)

/-- A label's points from what the region reads. -/
def gPts (l : Fin 8) : FVec F S3x256 .f32 :=
  lPts (k1_pay180 x0 x1 x2 x3 x4) (k1_pay177 x0 x1 x2 x3 x4) (k1_pay178 x0 x1 x2 x3 x4) (k1_pay181 x0 x1 x2 x3 x4)
    (k1_pay182 x0 x1 x2 x3 x4) (lC (k1_pay179 x0 x1 x2 x3 x4) (View.ld x1 r1_2) l)
/-- A label's background point from what the region reads. -/
def gBg (l : Fin 8) : FVec F S1x2 .f32 :=
  lBg (k1_pay180 x0 x1 x2 x3 x4) (lC (k1_pay179 x0 x1 x2 x3 x4) (View.ld x1 r1_2) l)

set_option maxRecDepth 100000

set_option maxHeartbeats 8000000 in
theorem out_pts : out1_5 x0 x1 x2 x3 x4 = View.canon [⟨r1_19, gPts x0 x1 x2 x3 x4 7⟩, ⟨r1_17, gPts x0 x1 x2 x3 x4 6⟩,
    ⟨r1_15, gPts x0 x1 x2 x3 x4 5⟩, ⟨r1_13, gPts x0 x1 x2 x3 x4 4⟩, ⟨r1_11, gPts x0 x1 x2 x3 x4 3⟩, ⟨r1_9, gPts x0 x1 x2 x3 x4 2⟩,
    ⟨r1_7, gPts x0 x1 x2 x3 x4 1⟩, ⟨r1_5, gPts x0 x1 x2 x3 x4 0⟩] := rfl

theorem out_bg : out1_6 x0 x1 x2 x3 x4 = View.canon [⟨r1_20, gBg x0 x1 x2 x3 x4 7⟩, ⟨r1_18, gBg x0 x1 x2 x3 x4 6⟩,
    ⟨r1_16, gBg x0 x1 x2 x3 x4 5⟩, ⟨r1_14, gBg x0 x1 x2 x3 x4 4⟩, ⟨r1_12, gBg x0 x1 x2 x3 x4 3⟩, ⟨r1_10, gBg x0 x1 x2 x3 x4 2⟩,
    ⟨r1_8, gBg x0 x1 x2 x3 x4 1⟩, ⟨r1_6, gBg x0 x1 x2 x3 x4 0⟩] := rfl

end Cert.Proof

end
-- ==== Proof.Hat.lean ====
/- The bilinear weights as integers over 32, and what interpolation along a line says of its extremes: on each of
   the pieces 0-7, 8-23, 24-39, 40-55, 56-63 of a cell of 64 pixels the interpolated line is affine, so that its
   greatest value over the cell is taken at the end of a piece, and at one no later than any place that takes it. -/
module

public import Idealize.ShloMosaic.Lib.Pointwise
public import Mathlib.Tactic.Linarith
public import Mathlib.Tactic.LinearCombination
public import Mathlib.Tactic.Ring

@[expose] public section

namespace Cert.Proof

/-- 32 times the weight of source `k` at pixel `i`. -/
def hatN (i k : ℕ) : ℕ :=
  if i < 8 then (if k = 0 then 32 else 0)
  else if 1016 ≤ i then (if k = 63 then 32 else 0)
  else 32 - ((2 * i : ℤ) - 15 - 32 * k).natAbs

/-- The weight before it is normalised, times 32. -/
def rawN (i k : ℕ) : ℕ := 32 - ((2 * i : ℤ) - 15 - 32 * k).natAbs

/-- The sum of the raw weights of a pixel. -/
def rawSum (i : ℕ) : ℕ := if i < 8 then 17 + 2 * i else if 1016 ≤ i then 17 + 2 * (1023 - i) else 32

/-- The ends of the piece that a pixel lies in. -/
def loOf (i : ℕ) : ℕ :=
  64 * (i / 64) + (if i % 64 < 8 then 0 else if i % 64 < 24 then 8 else if i % 64 < 40 then 24 else if i % 64 < 56 then 40 else 56)
def hiOf (i : ℕ) : ℕ :=
  64 * (i / 64) + (if i % 64 < 8 then 7 else if i % 64 < 24 then 23 else if i % 64 < 40 then 39 else if i % 64 < 56 then 55 else 63)

/-- The sixteen places of a cell that the kernel looks at (some of them written more than once). -/
def offs (o : ℕ) : ℕ := [0, 0, 0, 0, 7, 8, 23, 24, 39, 40, 55, 56, 63, 63, 63, 63].getD o 0

/-- Candidate `a` of the kernel's layout: place `a / 16` of cell `a % 16`. -/
def cand (a : ℕ) : ℕ := 64 * (a % 16) + offs (a / 16)

theorem sum_rawN : ∀ i : Fin 1024, (List.range 64).foldl (fun s k => s + rawN i k) 0 = rawSum i := by
  decide +kernel

theorem hatN_piece : ∀ i : Fin 1024, ∀ k : Fin 64,
    (hiOf i - loOf i) * hatN i k = (hiOf i - i) * hatN (loOf i) k + (i - loOf i) * hatN (hiOf i) k := by
  decide +kernel

theorem rawN_eq : ∀ i : Fin 1024, ∀ k : Fin 64, rawN i k * 32 = hatN i k * rawSum i := by
  decide +kernel

theorem loOf_cand : ∀ i : Fin 1024, (∃ o : Fin 16, loOf i = 64 * (i / 64) + offs o) ∧ (∃ o : Fin 16, hiOf i = 64 * (i / 64) + offs o)
    ∧ loOf i ≤ i ∧ (i : ℕ) ≤ hiOf i ∧ loOf i < hiOf i ∧ hiOf i < 1024 ∧ loOf i / 64 = i / 64 ∧ hiOf i / 64 = i / 64 := by
  decide +kernel

theorem offs_lt : ∀ o : Fin 16, offs o < 64 := by decide

/-- The weight. -/
noncomputable def hat (i k : ℕ) : ℝ := (hatN i k : ℝ) / 32

/-- A line of 64 sources interpolated at pixel `i`. -/
noncomputable def interp (f : ℕ → ℝ) (i : ℕ) : ℝ := ∑ k : Fin 64, hat i k * f k

theorem interp_piece (f : ℕ → ℝ) (i : ℕ) (hi : i < 1024) :
    ((hiOf i : ℝ) - loOf i) * interp f i = ((hiOf i : ℝ) - i) * interp f (loOf i) + ((i : ℝ) - loOf i) * interp f (hiOf i) := by
  obtain ⟨-, -, h1, h2, h3, -⟩ := loOf_cand ⟨i, hi⟩
  unfold interp
  rw [Finset.mul_sum, Finset.mul_sum, Finset.mul_sum, ← Finset.sum_add_distrib]
  refine Finset.sum_congr rfl fun k _ => ?_
  have h := hatN_piece ⟨i, hi⟩ k
  simp only at h h1 h2 h3
  have h' : (((hiOf i - loOf i) * hatN i k : ℕ) : ℝ) = (((hiOf i - i) * hatN (loOf i) k + (i - loOf i) * hatN (hiOf i) k : ℕ) : ℝ) := by
    exact_mod_cast h
  push_cast [Nat.cast_sub h1, Nat.cast_sub h2, Nat.cast_sub h3.le] at h'
  unfold hat
  linear_combination (f k / 32) * h'

/-- Where a line takes its greatest value over a cell, some candidate no later takes it. -/
theorem interp_max (f : ℕ → ℝ) (i : ℕ) (hi : i < 1024) (M : ℝ) (hM : interp f i = M)
    (hub : ∀ j, j < 1024 → j / 64 = i / 64 → interp f j ≤ M) :
    ∃ o : Fin 16, 64 * (i / 64) + offs o ≤ i ∧ interp f (64 * (i / 64) + offs o) = M := by
  obtain ⟨⟨o, ho⟩, ⟨o', ho'⟩, h1, h2, h3, h4, h5, h6⟩ := loOf_cand ⟨i, hi⟩
  simp only at ho ho' h1 h2 h3 h4 h5 h6
  rcases h2.eq_or_lt with h | h
  · exact ⟨o', by rw [← ho', ← h], by rw [← ho', ← h, hM]⟩
  · refine ⟨o, by rw [← ho]; exact h1, ?_⟩
    rw [← ho]
    have hp := interp_piece f i hi
    rw [hM] at hp
    have a1 := hub (loOf i) (by omega) h5
    have a2 := hub (hiOf i) h4 h6
    have c1 : (0 : ℝ) < (hiOf i : ℝ) - i := by exact_mod_cast sub_pos.mpr (Nat.cast_lt (α := ℝ) |>.mpr h)
    have c2 : (0 : ℝ) ≤ (i : ℝ) - loOf i := sub_nonneg.mpr (Nat.cast_le.mpr h1)
    refine le_antisymm a1 ?_
    by_contra hc
    push Not at hc
    nlinarith [mul_le_mul_of_nonneg_left a2 c2, mul_lt_mul_of_pos_left hc c1]

/-- The map of one label at pixel `(y, x)`, from its 64 x 64 sources. -/
noncomputable def umap (s : ℕ → ℕ → ℝ) (y x : ℕ) : ℝ := ∑ a : Fin 64, hat y a * ∑ b : Fin 64, s a b * hat x b

theorem umap_eq_y (s : ℕ → ℕ → ℝ) (y x : ℕ) : umap s y x = interp (fun a => ∑ b : Fin 64, s a b * hat x b) y := rfl

theorem umap_eq_x (s : ℕ → ℕ → ℝ) (y x : ℕ) : umap s y x = interp (fun b => ∑ a : Fin 64, s a b * hat y a) x := by
  unfold umap interp
  simp only [Finset.mul_sum]
  rw [Finset.sum_comm]
  exact Finset.sum_congr rfl fun b _ => Finset.sum_congr rfl fun a _ => by ring

theorem umap_neg (s : ℕ → ℕ → ℝ) (y x : ℕ) : umap (fun a b => -s a b) y x = -umap s y x := by
  unfold umap
  simp only [neg_mul, Finset.sum_neg_distrib, mul_neg]

/-- Where a cell of the map takes its greatest value, some candidate no later takes it. -/
theorem umap_max (s : ℕ → ℕ → ℝ) (y x : ℕ) (hy : y < 1024) (hx : x < 1024) (M : ℝ) (hM : umap s y x = M)
    (hub : ∀ y' x', y' < 1024 → x' < 1024 → y' / 64 = y / 64 → x' / 64 = x / 64 → umap s y' x' ≤ M) :
    ∃ o o' : Fin 16, 64 * (y / 64) + offs o ≤ y ∧ 64 * (x / 64) + offs o' ≤ x
      ∧ umap s (64 * (y / 64) + offs o) (64 * (x / 64) + offs o') = M := by
  obtain ⟨o', h1, h2⟩ := interp_max (fun b => ∑ a : Fin 64, s a b * hat y a) x hx M (by rw [← umap_eq_x]; exact hM)
    (fun j hj hjx => by rw [← umap_eq_x]; exact hub y j hy hj rfl hjx)
  have hlt := offs_lt o'
  rw [← umap_eq_x] at h2
  obtain ⟨o, h3, h4⟩ := interp_max (fun a => ∑ b : Fin 64, s a b * hat (64 * (x / 64) + offs o') b) y hy M
    (by rw [← umap_eq_y]; exact h2)
    (fun j hj hjy => by rw [← umap_eq_y]; exact hub j _ hj (by omega) hjy (by omega))
  exact ⟨o, o', h3, h1, by rw [umap_eq_y]; exact h4⟩

/-- `M` is the greatest value of the map over cell `(g, h)`, and `(y, x)` the first place of the cell that takes it. -/
structure CellSpec (u : ℕ → ℕ → ℝ) (g h : ℕ) (M : ℝ) (y x : ℕ) : Prop where
  hy : y / 64 = g
  hx : x / 64 = h
  hM : u y x = M
  ub : ∀ y' x', y' / 64 = g → x' / 64 = h → u y' x' ≤ M
  least : ∀ y' x', y' / 64 = g → x' / 64 = h → u y' x' = M → y * 1024 + x ≤ y' * 1024 + x'

/-- `m` is the least value of the map, and `(y, x)` the first place that takes it. -/
structure MinSpec (u : ℕ → ℕ → ℝ) (m : ℝ) (y x : ℕ) : Prop where
  hy : y < 1024
  hx : x < 1024
  hm : u y x = m
  lb : ∀ y' x', y' < 1024 → x' < 1024 → m ≤ u y' x'
  least : ∀ y' x', y' < 1024 → x' < 1024 → u y' x' = m → y * 1024 + x ≤ y' * 1024 + x'

/-- In a finite nonempty set of places, an extreme and the first place that takes it. -/
theorem exists_first_min (S : Finset (ℕ × ℕ)) (hS : S.Nonempty) (u : ℕ → ℕ → ℝ) :
    ∃ p ∈ S, (∀ q ∈ S, u p.1 p.2 ≤ u q.1 q.2) ∧ ∀ q ∈ S, u q.1 q.2 = u p.1 p.2 → p.1 * 1024 + p.2 ≤ q.1 * 1024 + q.2 := by
  obtain ⟨q, hq, hmin⟩ := S.exists_min_image (fun p => u p.1 p.2) hS
  obtain ⟨p, hp, hpm⟩ := (S.filter fun p => u p.1 p.2 = u q.1 q.2).exists_min_image (fun p => p.1 * 1024 + p.2)
    ⟨q, by simp [hq]⟩
  simp only [Finset.mem_filter] at hp hpm
  exact ⟨p, hp.1, fun r hr => by rw [hp.2]; exact hmin r hr, fun r hr hu => hpm r ⟨hr, by rw [hu, hp.2]⟩⟩

theorem exists_cellSpec (u : ℕ → ℕ → ℝ) (g h : ℕ) : ∃ M y x, CellSpec u g h M y x := by
  obtain ⟨p, hp, h1, h2⟩ := exists_first_min
    ((Finset.Ico (64 * g) (64 * g + 64)) ×ˢ (Finset.Ico (64 * h) (64 * h + 64)))
    ⟨(64 * g, 64 * h), by simp⟩ (fun y x => -u y x)
  simp only [Finset.mem_product, Finset.mem_Ico, Prod.forall, neg_le_neg_iff, neg_inj] at hp h1 h2
  refine ⟨u p.1 p.2, p.1, p.2, by omega, by omega, rfl, fun y' x' hy hx => h1 y' x' (by omega), fun y' x' hy hx hu => h2 y' x' (by omega) hu⟩

theorem exists_minSpec (u : ℕ → ℕ → ℝ) : ∃ m y x, MinSpec u m y x := by
  obtain ⟨p, hp, h1, h2⟩ := exists_first_min ((Finset.range 1024) ×ˢ (Finset.range 1024)) ⟨(0, 0), by simp⟩ u
  simp only [Finset.mem_product, Finset.mem_range, Prod.forall] at hp h1 h2
  exact ⟨u p.1 p.2, p.1, p.2, hp.1, hp.2, rfl, fun y' x' hy hx => h1 y' x' ⟨hy, hx⟩, fun y' x' hy hx hu => h2 y' x' ⟨hy, hx⟩ hu⟩

/-- The candidates of a cell take its greatest value, at its first place. -/
theorem CellSpec.exists_cand {s : ℕ → ℕ → ℝ} {g h : ℕ} {M : ℝ} {y x : ℕ} (H : CellSpec (umap s) g h M y x)
    (hg : g < 16) (hh : h < 16) :
    ∃ o o' : Fin 16, y = 64 * g + offs o ∧ x = 64 * h + offs o' := by
  have hy := H.hy
  have hx := H.hx
  obtain ⟨o, o', h1, h2, h3⟩ := umap_max s y x (by omega) (by omega) M H.hM
    (fun y' x' _ _ ey ex => H.ub y' x' (by omega) (by omega))
  rw [hy] at h1 h3
  rw [hx] at h2 h3
  have l1 := offs_lt o
  have l2 := offs_lt o'
  have hl := H.least _ _ (by omega) (by omega) h3
  exact ⟨o, o', by omega, by omega⟩

/-- The candidates take the map's least value, at its first place. -/
theorem MinSpec.exists_cand {s : ℕ → ℕ → ℝ} {m : ℝ} {y x : ℕ} (H : MinSpec (umap s) m y x) :
    ∃ o o' : Fin 16, y = 64 * (y / 64) + offs o ∧ x = 64 * (x / 64) + offs o' := by
  have hy := H.hy
  have hx := H.hx
  obtain ⟨o, o', h1, h2, h3⟩ := umap_max (fun a b => -s a b) y x hy hx (-m) (by rw [umap_neg, H.hm])
    (fun y' x' hy' hx' _ _ => by rw [umap_neg]; exact neg_le_neg (H.lb y' x' hy' hx'))
  rw [umap_neg, neg_inj] at h3
  have l1 := offs_lt o
  have l2 := offs_lt o'
  have hl := H.least _ _ (by omega) (by omega) h3
  exact ⟨o, o', by omega, by omega⟩

end Cert.Proof
-- ==== Proof.Rank.lean ====
/- A stable sort by decreasing key puts at place `j` the position of rank `j`: the one before which exactly `j`
   positions come, those of a greater key and those of the same key and a smaller index. -/
module

public import Idealize.ShloMosaic.Lib.SortFacts
public import Idealize.ShloMosaic.Lib.Pointwise

@[expose] public section

namespace Cert.Proof

open Idealize.ShloMosaic

variable {n : ℕ} {κ : Type} [LinearOrder κ]

/-- Position `i` comes before position `j`. -/
def Ahead (k : Fin n → κ) (i j : Fin n) : Prop := k j < k i ∨ (k i = k j ∧ i < j)

instance (k : Fin n → κ) (i j : Fin n) : Decidable (Ahead k i j) := inferInstanceAs (Decidable (_ ∨ _))

/-- How many positions come before `i`. -/
def rankOf (k : Fin n → κ) (i : Fin n) : ℕ := (Finset.univ.filter fun j => Ahead k j i).card

theorem Ahead.trans {k : Fin n → κ} {a b c : Fin n} (h : Ahead k a b) (h' : Ahead k b c) : Ahead k a c := by
  rcases h with h | ⟨h, hi⟩ <;> rcases h' with h' | ⟨h', hi'⟩
  · exact .inl (h'.trans h)
  · exact .inl (h' ▸ h)
  · exact .inl (h ▸ h')
  · exact .inr ⟨h.trans h', hi.trans hi'⟩

theorem Ahead.irrefl (k : Fin n → κ) (a : Fin n) : ¬ Ahead k a a := by
  rintro (h | ⟨_, h⟩) <;> exact absurd h (lt_irrefl _)

theorem ahead_of_not {k : Fin n → κ} {a b : Fin n} (hab : a < b) (h : ¬ k a < k b) : Ahead k a b := by
  rcases (not_lt.mp h).lt_or_eq with h' | h'
  · exact .inl h'
  · exact .inr ⟨h'.symm, hab⟩

/-- Inserting a position that comes first in the list's own order keeps the list in order. -/
theorem pairwise_insert (k : Fin n → κ) (B : Fin n → Fin n → Bool) (hB : ∀ i j, B i j = true ↔ k j < k i) (a : Fin n)
    (l : List (Fin n)) (hl : l.Pairwise (Ahead k)) (ha : ∀ b ∈ l, a < b) : (insertBefore B a l).Pairwise (Ahead k) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore B a l).mem_iff.mp hc) with rfl | hc'
      · exact .inl ((hB _ _).mp h)
      · exact hl.1 c hc'
    · rename_i h
      have hab : Ahead k a b := ahead_of_not (ha b List.mem_cons_self) fun hk => h ((hB _ _).mpr hk)
      refine List.pairwise_cons.mpr ⟨fun c hc => ?_, List.pairwise_cons.mpr hl⟩
      rcases List.mem_cons.mp hc with rfl | hc'
      · exact hab
      · exact hab.trans (hl.1 c hc')

theorem pairwise_sort (k : Fin n → κ) (B : Fin n → Fin n → Bool) (hB : ∀ i j, B i j = true ↔ k j < k i)
    (l : List (Fin n)) (hl : l.Pairwise (· < ·)) : (stableSort B l).Pairwise (Ahead k) := by
  induction l with
  | nil => exact List.Pairwise.nil
  | cons a l ih =>
    rw [List.pairwise_cons] at hl
    unfold stableSort
    exact pairwise_insert k B hB a _ (ih hl.2) fun b hb => hl.1 b ((perm_stableSort B l).mem_iff.mp hb)

theorem ahead_sorted (k : Fin n → κ) (B : Fin n → Fin n → Bool) (hB : ∀ i j, B i j = true ↔ k j < k i)
    (i j : Fin n) (hij : i < j) : Ahead k (sortedFrom B i) (sortedFrom B j) := by
  have hp : ∀ a b : Fin (sortPositions n B).length, a < b → Ahead k ((sortPositions n B).get a) ((sortPositions n B).get b) :=
    List.pairwise_iff_get.mp (pairwise_sort k B hB _ (List.pairwise_lt_finRange n))
  unfold sortedFrom
  exact hp _ _ (by simp only [Fin.lt_def, Fin.val_cast]; exact hij)

theorem ahead_sorted_iff (k : Fin n → κ) (B : Fin n → Fin n → Bool) (hB : ∀ i j, B i j = true ↔ k j < k i)
    (i j : Fin n) : Ahead k (sortedFrom B i) (sortedFrom B j) ↔ i < j := by
  refine ⟨fun h => ?_, ahead_sorted k B hB i j⟩
  rcases lt_trichotomy i j with h' | rfl | h'
  · exact h'
  · exact absurd h (Ahead.irrefl k _)
  · exact absurd (h.trans (ahead_sorted k B hB j i h')) (Ahead.irrefl k _)

theorem rank_sorted (k : Fin n → κ) (B : Fin n → Fin n → Bool) (hB : ∀ i j, B i j = true ↔ k j < k i)
    (j : Fin n) : rankOf k (sortedFrom B j) = j := by
  have hbij : Function.Bijective (sortedFrom B) := ⟨sortedFrom_injective B, sortedFrom_surjective B⟩
  have : (Finset.univ.filter fun i => Ahead k i (sortedFrom B j)) = (Finset.univ.filter fun i => i < j).map
      ⟨sortedFrom B, sortedFrom_injective B⟩ := by
    ext i
    obtain ⟨i', rfl⟩ := hbij.2 i
    simp only [Finset.mem_filter, Finset.mem_univ, true_and, Finset.mem_map, Function.Embedding.coeFn_mk,
      ahead_sorted_iff k B hB]
    exact ⟨fun h => ⟨i', h, rfl⟩, fun ⟨a, h, e⟩ => sortedFrom_injective B e ▸ h⟩
  unfold rankOf
  rw [this, Finset.card_map]
  rw [show (Finset.univ.filter fun i : Fin n => i < j) = Finset.Iio j by ext; simp, Fin.card_Iio]

/-- The position of rank `j` is the one the sort puts at `j`. -/
theorem rank_eq_iff (k : Fin n → κ) (B : Fin n → Fin n → Bool) (hB : ∀ i j, B i j = true ↔ k j < k i)
    (i j : Fin n) : rankOf k i = j ↔ i = sortedFrom B j := by
  constructor
  · intro h
    obtain ⟨j', rfl⟩ := sortedFrom_surjective B i
    rw [rank_sorted k B hB] at h
    rw [Fin.ext h]
  · rintro rfl
    exact rank_sorted k B hB j

/-- Keys in the same order give the same ranks. -/
theorem rankOf_congr {κ' : Type} [LinearOrder κ'] (k : Fin n → κ) (k' : Fin n → κ')
    (h : ∀ i j, k i < k j ↔ k' i < k' j) (i : Fin n) : rankOf k i = rankOf k' i := by
  have he : ∀ i j, k i = k j ↔ k' i = k' j := fun i j => by
    rw [le_antisymm_iff, le_antisymm_iff, ← not_lt, ← not_lt, ← not_lt, ← not_lt, h, h]
  unfold rankOf
  congr 1
  exact Finset.filter_congr fun j _ => by simp only [Ahead, h, he]

end Cert.Proof
-- ==== Proof.Words.lean ====
/- Words that hold pixel numbers: the quotient and the remainder by 1024 as they are printed, least words, counts. -/
module

public import Idealize.ShloMosaic.Lib.Routing.Words
public import Idealize.ShloMosaic.Lib.SortNet.Extract
public import Idealize.ShloMosaic.Lib.Pointwise

@[expose] public section

namespace Cert.Proof

open Idealize.ShloMosaic

theorem toInt_word {n : ℕ} (h : n < 2 ^ 31) : (BitVec.ofNat 32 n).toInt = n := by
  rw [BitVec.toInt_eq_toNat_of_msb (Routing.msb_ofNat32 h), BitVec.toNat_ofNat]
  omega

theorem rem_word (u : ArithUnit) {n : ℕ} (h : n < 2 ^ 31) :
    IntOp.remsi u (BitVec.ofNat 32 n) 1024#32 = BitVec.ofNat 32 (n % 1024) :=
  Routing.remsi_word u h (by decide) (by decide)

theorem div_word (u : ArithUnit) {n : ℕ} (h : n < 2 ^ 31) :
    IntOp.divsi u (BitVec.ofNat 32 n) 1024#32 = BitVec.ofNat 32 (n / 1024) :=
  Routing.divsi_word u h (by decide) (by decide)

theorem slt_zero {n : ℕ} (h : n < 2 ^ 31) : IntOp.cmpi .slt (BitVec.ofNat 32 n) 0#32 = 0#1 := by
  show BitVec.ofBool ((BitVec.ofNat 32 n).slt (BitVec.ofNat 32 0)) = 0#1
  rw [Routing.slt_ofNat32 h (by decide)]
  simp

theorem sgt_zero {n : ℕ} (h : n < 2 ^ 31) (h0 : 0 < n) : IntOp.cmpi .sgt (BitVec.ofNat 32 n) 0#32 = 1#1 := by
  show BitVec.ofBool ((BitVec.ofNat 32 0).slt (BitVec.ofNat 32 n)) = 1#1
  rw [Routing.slt_ofNat32 (by decide) h]
  simp [h0]

/-- The remainder whose sign is corrected. -/
theorem mod_form (u : ArithUnit) {n : ℕ} (h : n < 2 ^ 31) (x y : BitVec 32) :
    Scalar.select (IntOp.andi (IntOp.xori (IntOp.cmpi .slt (IntOp.remsi u (BitVec.ofNat 32 n) 1024#32) 0#32)
        (IntOp.cmpi .slt 1024#32 0#32)) (IntOp.cmpi .ne (IntOp.remsi u (BitVec.ofNat 32 n) 1024#32) 0#32)) x y = y := by
  rw [rem_word u h, slt_zero (by omega)]
  rw [show IntOp.xori 0#1 (IntOp.cmpi .slt 1024#32 0#32) = 0#1 by decide]
  generalize IntOp.cmpi .ne (BitVec.ofNat 32 (n % 1024)) 0#32 = b
  revert b; simp only [IntOp.andi, BitVec.zero_and]; intro b; rfl

/-- The quotient whose rounding is corrected, the signs taken by comparisons. -/
theorem div_form (u : ArithUnit) {n : ℕ} (h : n < 2 ^ 31) (x y : BitVec 32) :
    Scalar.select (IntOp.andi (IntOp.cmpi .ne
        (IntOp.subi ((IntOp.cmpi .sgt (BitVec.ofNat 32 n) 0#32).setWidth 32) ((IntOp.cmpi .slt (BitVec.ofNat 32 n) 0#32).setWidth 32))
        (IntOp.subi ((IntOp.cmpi .sgt 1024#32 0#32).setWidth 32) ((IntOp.cmpi .slt 1024#32 0#32).setWidth 32)))
      (IntOp.cmpi .ne (IntOp.remsi u (BitVec.ofNat 32 n) 1024#32) 0#32)) x y = y := by
  rcases Nat.eq_zero_or_pos n with rfl | h0
  · rw [rem_word u h]; rfl
  · rw [slt_zero h, sgt_zero h h0, rem_word u h]
    generalize IntOp.cmpi .ne (BitVec.ofNat 32 (n % 1024)) 0#32 = b
    rw [show IntOp.cmpi .ne (IntOp.subi (BitVec.setWidth 32 1#1) (BitVec.setWidth 32 0#1))
      (IntOp.subi ((IntOp.cmpi .sgt 1024#32 0#32).setWidth 32) ((IntOp.cmpi .slt 1024#32 0#32).setWidth 32)) = 0#1 by decide]
    simp only [IntOp.andi, BitVec.zero_and]; rfl

/-- A word is known by the integer it holds. -/
theorem word_of_toInt {w : BitVec 32} {n : ℕ} (hn : n < 2 ^ 31) (h : w.toInt = n) : w = BitVec.ofNat 32 n :=
  BitVec.eq_of_toInt_eq (by rw [h, toInt_word hn])

/-- A fold of the least word. -/
theorem fold_minsi {ι : Type} (s : Finset ι) (f : ι → BitVec 32) (b : BitVec 32) (n : ℤ) (hb : n ≤ b.toInt)
    (hle : ∀ i ∈ s, n ≤ (f i).toInt) (hex : ∃ i ∈ s, (f i).toInt = n) : (s.fold IntOp.minsi b f).toInt = n := by
  classical
  have key : ∀ (s : Finset ι), (s.fold IntOp.minsi b f).toInt = s.fold min b.toInt fun i => (f i).toInt := by
    intro s
    induction s using Finset.induction_on with
    | empty => simp
    | insert a s ha ih => rw [Finset.fold_insert ha, Finset.fold_insert ha, SortNet.toInt_minsi, ih]
  rw [key]
  refine le_antisymm ?_ (Finset.le_fold_min _ |>.mpr ⟨hb, hle⟩)
  obtain ⟨i, hi, e⟩ := hex
  exact (Finset.fold_min_le _).mpr (.inr ⟨i, hi, e.le⟩)

theorem fold_min_val {ι : Type} (s : Finset ι) (f : ι → EReal) (n : EReal)
    (hle : ∀ i ∈ s, n ≤ f i) (hex : ∃ i ∈ s, f i = n) : s.fold min ⊤ f = n := by
  refine le_antisymm ?_ (Finset.le_fold_min _ |>.mpr ⟨le_top, hle⟩)
  obtain ⟨i, hi, e⟩ := hex
  exact (Finset.fold_min_le _).mpr (.inr ⟨i, hi, e.le⟩)

theorem fold_max_val {ι : Type} (s : Finset ι) (f : ι → EReal) (n : EReal)
    (hle : ∀ i ∈ s, f i ≤ n) (hex : ∃ i ∈ s, f i = n) : s.fold max ⊥ f = n := by
  refine le_antisymm (Finset.fold_max_le _ |>.mpr ⟨bot_le, hle⟩) ?_
  obtain ⟨i, hi, e⟩ := hex
  exact (Finset.le_fold_max _).mpr (.inr ⟨i, hi, e.ge⟩)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of ones is a count. -/
theorem sum_ones {ι : Type} (s : Finset ι) (p : ι → Prop) [DecidablePred p] :
    (∑ i ∈ s, if p i then (1 : EReal) else 0) = (((s.filter p).card : ℝ) : EReal) := by
  rw [Finset.card_filter, Nat.cast_sum, coe_sum]
  exact Finset.sum_congr rfl fun i _ => by split <;> simp

theorem fptosi_nat {n : ℕ} (h : n < 2 ^ 31) : Ideal.fptosi 32 (((n : ℕ) : ℝ) : EReal) = BitVec.ofNat 32 n := by
  refine BitVec.eq_of_toInt_eq ?_
  rw [toInt_word h]
  show (BitVec.ofInt 32 (max (-(2 ^ (32 - 1) : ℕ)) (min ((2 ^ (32 - 1) : ℕ) - 1) (if (0 : ℝ) ≤ (n : ℝ) then ⌊(n : ℝ)⌋ else ⌈(n : ℝ)⌉)))).toInt = n
  rw [if_pos (by positivity), Int.floor_natCast, BitVec.toInt_ofInt, min_eq_right (by push_cast; omega), max_eq_right (by push_cast; omega)]
  exact Int.bmod_eq_of_le (by omega) (by omega)

end Cert.Proof
-- ==== Proof.LabelValue.lean ====
/- The values of one label: the points in the order of their ranks and the background point, from the least and the
   greatest values of the interpolated map. -/
module

public import proofs.«01_k».proof.Proof.Label
public import proofs.«01_k».proof.Proof.Hat
public import proofs.«01_k».proof.Proof.Rank
public import proofs.«01_k».proof.Proof.Words

@[expose] public section

set_option maxRecDepth 16384

noncomputable section

namespace Cert.Proof

open Idealize.ShloMosaic Cert.KernelIdeal Cert.KernelIdeal.Gen

/-! ## The label's cells and its least value -/

section Spec
variable (s : ℕ → ℕ → ℝ)

/-- The greatest value of a cell, and where it is first taken. -/
def cM (g h : ℕ) : ℝ := (exists_cellSpec (umap s) g h).choose
def cY (g h : ℕ) : ℕ := (exists_cellSpec (umap s) g h).choose_spec.choose
def cX (g h : ℕ) : ℕ := (exists_cellSpec (umap s) g h).choose_spec.choose_spec.choose
theorem cell_spec (g h : ℕ) : CellSpec (umap s) g h (cM s g h) (cY s g h) (cX s g h) :=
  (exists_cellSpec (umap s) g h).choose_spec.choose_spec.choose_spec

/-- The least value of the map, and where it is first taken. -/
def mM : ℝ := (exists_minSpec (umap s)).choose
def mY : ℕ := (exists_minSpec (umap s)).choose_spec.choose
def mX : ℕ := (exists_minSpec (umap s)).choose_spec.choose_spec.choose
theorem min_spec : MinSpec (umap s) (mM s) (mY s) (mX s) := (exists_minSpec (umap s)).choose_spec.choose_spec.choose_spec

/-- The threshold, the key of a cell that is not above it, and what stands for its coordinates. -/
def thr : EReal := Ideal.ofBits .f32 0x3D4CCCCD#32
def low : EReal := Ideal.ofBits .f32 0xF149F2CA#32
def neg1 : EReal := Ideal.ofBits .f32 0xBF800000#32

/-- Cell `i`'s greatest value. -/
def sc (i : ℕ) : EReal := (cM s (i / 16) (i % 16) : ℝ)
/-- The key it is ranked by. -/
def key (i : ℕ) : EReal := if thr < sc s i then sc s i else low
/-- Cell `i`'s point: its column, its row, its value. -/
def point (i : ℕ) (r : Fin 3) : EReal :=
  if thr < sc s i then ![((cX s (i / 16) (i % 16) : ℝ) : EReal), ((cY s (i / 16) (i % 16) : ℝ) : EReal), sc s i] r else neg1

end Spec

/-! ## Sixteen parts joined -/

theorem join16_hom {α β : Type} (φ : α → β) (op : α → α → α) (op' : β → β → β) (h : ∀ a b, φ (op a b) = op' (φ a) (φ b))
    (f : Fin 16 → α) : φ (join16 op f) = join16 op' fun k => φ (f k) := by
  simp only [join16, later, List.foldl_cons, List.foldl_nil, h]

theorem join16_max {β : Type} [LinearOrder β] (f : Fin 16 → β) (M : β) (hle : ∀ k, f k ≤ M) (hex : ∃ k, f k = M) :
    join16 max f = M := by
  refine le_antisymm ?_ ?_
  · simp only [join16, later, List.foldl_cons, List.foldl_nil, max_le_iff, hle, and_self]
  · obtain ⟨k, rfl⟩ := hex
    simp only [join16, later, List.foldl_cons, List.foldl_nil, le_max_iff]
    fin_cases k <;> simp

theorem join16_min {β : Type} [LinearOrder β] (f : Fin 16 → β) (M : β) (hle : ∀ k, M ≤ f k) (hex : ∃ k, f k = M) :
    join16 min f = M := by
  refine le_antisymm ?_ ?_
  · obtain ⟨k, rfl⟩ := hex
    simp only [join16, later, List.foldl_cons, List.foldl_nil, min_le_iff]
    fin_cases k <;> simp
  · simp only [join16, later, List.foldl_cons, List.foldl_nil, le_min_iff, hle, and_self]

/-! ## Rows and columns of candidates -/

/-- Candidate `k` of cell row `g`. -/
def at16 (k g : Fin 16) : Fin 256 := ⟨16 * k + g, by omega⟩

theorem cand_at16 (k g : Fin 16) : cand (at16 k g) = 64 * (g : ℕ) + offs k := by
  unfold cand at16
  rw [show (16 * (k : ℕ) + g) % 16 = g by omega, show (16 * (k : ℕ) + g) / 16 = k by omega]

theorem rowsAt_apply {α : Type} (c : S256x256.Idx → α) (k g : Fin 16) (b : Fin 256) :
    rowsAt c k (ix2 g b) = c (ix2 (at16 k g) b) := by
  unfold rowsAt
  pointwise
  rfl

theorem colsAt_apply {α : Type} (c : S16x256.Idx → α) (k g h : Fin 16) : colsAt c k (ix2 g h) = c (ix2 g (at16 k h)) := by
  unfold colsAt
  pointwise
  rfl

theorem cand_div (a : Fin 256) : cand a / 64 = a % 16 := by
  unfold cand
  have := offs_lt ⟨a / 16, by omega⟩
  simp only at this
  omega

theorem cand_lt (a : Fin 256) : cand a < 1024 := by
  unfold cand
  have := offs_lt ⟨a / 16, by omega⟩
  simp only at this
  omega

/-! ## The cells -/

section Cells
variable (s : ℕ → ℕ → ℝ) (c : FVec Ideal S256x256 .f32) (fidx : IVec S256x256 32)
  (hc : ∀ a b : Fin 256, c (ix2 a b) = ((umap s (cand a) (cand b) : ℝ) : EReal))
  (hf : ∀ a b : Fin 256, fidx (ix2 a b) = BitVec.ofNat 32 (cand a * 1024 + cand b))

/-- A join of joins over the candidates of a cell. -/
theorem join_cell {α : Type} (op : α → α → α) {β : Type} (φ : α → β) (op' : β → β → β) (h : ∀ a b, φ (op a b) = op' (φ a) (φ b))
    (c : S256x256.Idx → α) (g k : Fin 16) :
    φ (join16 (fun x y i => op (x i) (y i)) (colsAt (join16 (fun x y i => op (x i) (y i)) (rowsAt c))) (ix2 g k))
      = join16 op' fun o' => join16 op' fun o => φ (c (ix2 (at16 o g) (at16 o' k))) := by
  rw [join16_hom (fun x => x (ix2 g k)) (fun x y i => op (x i) (y i)) op fun _ _ => rfl, join16_hom φ op op' h]
  congr 1; funext o'
  rw [colsAt_apply, join16_hom (fun x => x (ix2 g (at16 o' k))) (fun x y i => op (x i) (y i)) op fun _ _ => rfl,
    join16_hom φ op op' h]
  congr 1; funext o
  rw [rowsAt_apply]

include hc in
theorem lM_val (g h : Fin 16) : lM c (ix2 g h) = ((cM s g h : ℝ) : EReal) := by
  have H := cell_spec s g h
  obtain ⟨o, o', ey, ex⟩ := H.exists_cand g.isLt h.isLt
  have hle : ∀ k k' : Fin 16, c (ix2 (at16 k g) (at16 k' h)) ≤ ((cM s g h : ℝ) : EReal) := fun k k' => by
    rw [hc, EReal.coe_le_coe_iff, cand_at16, cand_at16]
    have h1 := offs_lt k
    have h2 := offs_lt k'
    exact H.ub _ _ (by omega) (by omega)
  have heq : c (ix2 (at16 o g) (at16 o' h)) = ((cM s g h : ℝ) : EReal) := by
    rw [hc, cand_at16, cand_at16, ← ey, ← ex, H.hM]
  refine (join_cell (fun x y : EReal => max x y) id max (fun _ _ => rfl) c g h).trans ?_
  have hin : ∀ k', join16 max (fun k => c (ix2 (at16 k g) (at16 k' h))) ≤ ((cM s g h : ℝ) : EReal) := fun k' => by
    simp only [join16, later, List.foldl_cons, List.foldl_nil, max_le_iff, hle, and_self]
  exact join16_max _ _ hin ⟨o', join16_max _ _ (fun k => hle k o') ⟨o, heq⟩⟩

theorem lFm_eq : lFm c fidx = select (cmpf .oeq c (concatenate S256x256 1 (List.replicate 16 ⟨S256x16,
    concatenate S256x16 0 (List.replicate 16 ⟨S16x16, lM c⟩)
      concatenates_S16x16_S16x16_S16x16_S16x16_S16x16_S16x16_S16x16_S16x16_S16x16_S16x16_S16x16_S16x16_S16x16_S16x16_S16x16_S16x16_S256x16_d0⟩)
      concatenates_S256x16_S256x16_S256x16_S256x16_S256x16_S256x16_S256x16_S256x16_S256x16_S256x16_S256x16_S256x16_S256x16_S256x16_S256x16_S256x16_S256x256_d1))
    fidx (broadcast S256x256 1073741824#32) := rfl

include hc in
theorem lFm_val (a b : Fin 256) : lFm c fidx (ix2 a b)
    = if umap s (cand a) (cand b) = cM s (a % 16 : ℕ) (b % 16 : ℕ) then fidx (ix2 a b) else 1073741824#32 := by
  rw [lFm_eq]
  show Scalar.select (Ideal.cmp .oeq (c (ix2 a b)) _) (fidx (ix2 a b)) 1073741824#32 = _
  rw [concatenate_replicate_apply (t := S256x256) (s₁ := S256x16) 1 16 _ _ rfl (ix2 a b) (ix2 a ⟨b % 16, by omega⟩) rfl
      (by intro k hk; fin_cases k; · rfl
          · exact absurd rfl hk),
    concatenate_replicate_apply (t := S256x16) (s₁ := S16x16) 0 16 _ _ rfl (ix2 a ⟨b % 16, by omega⟩)
      (ix2 ⟨a % 16, by omega⟩ ⟨b % 16, by omega⟩) rfl
      (by intro k hk; fin_cases k; · exact absurd rfl hk
          · rfl),
    lM_val s c hc, hc]
  simp only [Ideal.cmp, EReal.coe_eq_coe_iff, Scalar.select]
  by_cases h : umap s (cand a) (cand b) = cM s (a % 16 : ℕ) (b % 16 : ℕ)
  · rw [if_pos h, if_pos (by rw [decide_eq_true h]; rfl)]
  · rw [if_neg h, if_neg (by rw [decide_eq_false h]; decide)]

include hc hf in
theorem lI_val (g h : Fin 16) : lI c fidx (ix2 g h) = BitVec.ofNat 32 (cY s g h * 1024 + cX s g h) := by
  have H := cell_spec s g h
  have hy := H.hy
  have hx := H.hx
  obtain ⟨o, o', ey, ex⟩ := H.exists_cand g.isLt h.isLt
  have hval : ∀ k k' : Fin 16, (lFm c fidx (ix2 (at16 k g) (at16 k' h))).toInt
      = if umap s (cand (at16 k g)) (cand (at16 k' h)) = cM s g h then ((cand (at16 k g) * 1024 + cand (at16 k' h) : ℕ) : ℤ)
        else 1073741824 := fun k k' => by
    rw [lFm_val s c fidx hc, hf, show ((at16 k g : Fin 256) : ℕ) % 16 = g by simp only [at16]; omega,
      show ((at16 k' h : Fin 256) : ℕ) % 16 = h by simp only [at16]; omega]
    have h1 := cand_lt (at16 k g)
    have h2 := cand_lt (at16 k' h)
    split
    · exact toInt_word (by omega)
    · rfl
  have hle : ∀ k k' : Fin 16, ((cY s g h * 1024 + cX s g h : ℕ) : ℤ) ≤ (lFm c fidx (ix2 (at16 k g) (at16 k' h))).toInt := fun k k' => by
    rw [hval]
    have h1 := offs_lt k
    have h2 := offs_lt k'
    split
    · rename_i hM
      rw [cand_at16, cand_at16] at hM ⊢
      exact_mod_cast H.least _ _ (by omega) (by omega) hM
    · omega
  have heq : (lFm c fidx (ix2 (at16 o g) (at16 o' h))).toInt = ((cY s g h * 1024 + cX s g h : ℕ) : ℤ) := by
    rw [hval, cand_at16, cand_at16, ← ey, ← ex, if_pos H.hM]
  refine word_of_toInt (by omega) ?_
  refine (join_cell (fun x y : BitVec 32 => IntOp.minsi x y) BitVec.toInt min SortNet.toInt_minsi (lFm c fidx) g h).trans ?_
  have hin : ∀ k', ((cY s g h * 1024 + cX s g h : ℕ) : ℤ) ≤ join16 min (fun k => (lFm c fidx (ix2 (at16 k g) (at16 k' h))).toInt) :=
    fun k' => by simp only [join16, later, List.foldl_cons, List.foldl_nil, le_min_iff, hle, and_self]
  exact join16_min _ _ hin ⟨o', join16_min _ _ (fun k => hle k o') ⟨o, heq⟩⟩

/-! ## The background point -/

theorem pos_inf : Ideal.ofBits .f32 2139095040#32 = ⊤ := by
  simp [Ideal.ofBits, Ideal.ieee]

include hc hf in
theorem bg_idx : extractAt ![0, 0, 0] (k1_pay15 fidx c) inpos_S1x1x1_p0_0_0 = BitVec.ofNat 32 (mY s * 1024 + mX s) := by
  have H := min_spec s
  have hy := H.hy
  have hx := H.hx
  obtain ⟨o, o', ey, ex⟩ := H.exists_cand
  have cy : cand (at16 o ⟨mY s / 64, by omega⟩) = mY s := by rw [cand_at16]; exact ey.symm
  have cx : cand (at16 o' ⟨mX s / 64, by omega⟩) = mX s := by rw [cand_at16]; exact ex.symm
  pointwise [k1_pay15]
  rw [pos_inf, fold_min_val Finset.univ (fun x : Fin 256 × Fin 256 => c (ix2 x.1 x.2)) ((mM s : ℝ) : EReal)
    (fun x _ => by
      rw [hc, EReal.coe_le_coe_iff]
      exact H.lb _ _ (cand_lt _) (cand_lt _))
    ⟨(at16 o ⟨mY s / 64, by omega⟩, at16 o' ⟨mX s / 64, by omega⟩), Finset.mem_univ _, by rw [hc, cy, cx, H.hm]⟩]
  refine word_of_toInt (by omega) (fold_minsi _ _ _ _ ?_ ?_ ?_)
  · rw [show (2147483647#32).toInt = 2147483647 by decide]; omega
  · rintro ⟨a, b⟩ -
    have h1 := cand_lt a
    have h2 := cand_lt b
    simp only [hc, hf, EReal.coe_eq_coe_iff]
    split
    · rename_i hM
      rw [toInt_word (by omega)]
      exact_mod_cast H.least _ _ h1 h2 hM
    · rw [show (1073741824#32).toInt = 1073741824 by decide]; omega
  · refine ⟨(at16 o ⟨mY s / 64, by omega⟩, at16 o' ⟨mX s / 64, by omega⟩), Finset.mem_univ _, ?_⟩
    simp only [hc, hf, cy, cx, H.hm, if_true]
    exact toInt_word (by omega)

include hc hf in
/-- The background point: the column and the row of the least value. -/
theorem lBg_val (r : Fin 2) : lBg fidx c (ix2 0 r) = ![((mX s : ℝ) : EReal), ((mY s : ℝ) : EReal)] r := by
  have H := min_spec s
  have hy := H.hy
  have hx := H.hx
  unfold lBg
  rw [bg_idx s c fidx hc hf]
  have hn : mY s * 1024 + mX s < 2 ^ 31 := by omega
  fin_cases r
  · pointwise [k1_pay57]
    rw [show Scalar.select (Scalar.cmpi .eq 1024#32 0#32) 1#32 1024#32 = 1024#32 by decide]
    refine (congrArg (fun w : BitVec 32 => ((w.toInt : ℝ) : EReal)) ((mod_form .scalar hn _ _).trans (rem_word .scalar hn))).trans ?_
    rw [toInt_word (by omega), show (mY s * 1024 + mX s) % 1024 = mX s by omega]
    rfl
  · pointwise [k1_pay57]
    refine (congrArg (fun w : BitVec 32 => ((w.toInt : ℝ) : EReal)) ((div_form .scalar hn _ _).trans (div_word .scalar hn))).trans ?_
    rw [toInt_word (by omega), show (mY s * 1024 + mX s) / 1024 = mY s by omega]
    rfl

end Cells

end Cert.Proof

end
-- ==== Proof.Sims.lean ====
/- The similarity of a reference vector and a pixel's feature vector: under the precondition it is a real number. -/
module

public import proofs.«01_k».proof.Proof.Words

@[expose] public section

noncomputable section

namespace Cert.Proof

open Idealize.ShloMosaic

/-- A reference vector against a pixel's vector divided by its length. -/
def simE (R T : Fin 256 → EReal) : EReal := ∑ c, R c * Ideal.div (T c) (Ideal.sqrt (∑ c, T c * T c))

theorem mul_self_nonneg' (x : EReal) : 0 ≤ x * x := by
  induction x with
  | bot => simp
  | top => simp
  | coe r => rw [← EReal.coe_mul]; exact_mod_cast mul_self_nonneg r

/-- A real number, as an extended one. -/
def IsReal (x : EReal) : Prop := ∃ r : ℝ, x = r

theorem isReal_sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    obtain ⟨p, hp⟩ := h a (Finset.mem_insert_self _ _)
    obtain ⟨q, hq⟩ := ih fun i hi => h i (Finset.mem_insert_of_mem hi)
    exact ⟨p + q, by rw [Finset.sum_insert ha, hp, hq, EReal.coe_add]⟩

theorem isReal_div (T : Fin 256 → EReal) (he : 0 < ∑ c, T c * T c) (c : Fin 256) :
    IsReal (Ideal.div (T c) (Ideal.sqrt (∑ c, T c * T c))) := by
  have hle : T c * T c ≤ ∑ c, T c * T c := Finset.single_le_sum (fun i _ => mul_self_nonneg' (T i)) (Finset.mem_univ c)
  generalize (∑ c, T c * T c) = e at he hle
  induction e with
  | bot => exact absurd he (by simp)
  | top =>
    refine ⟨0, ?_⟩
    show (if (⊤ : EReal) = 0 then _ else T c * (⊤ : EReal)⁻¹) = _
    rw [if_neg (by simp), EReal.inv_top, mul_zero]; rfl
  | coe r =>
    have hr : 0 < r := by exact_mod_cast he
    have hs : Ideal.sqrt (r : EReal) = ((Real.sqrt r : ℝ) : EReal) := by
      show (if r < 0 then ⊥ else (Real.sqrt r : EReal)) = _
      rw [if_neg hr.not_gt]
    have hp : 0 < Real.sqrt r := Real.sqrt_pos.mpr hr
    rw [hs]
    generalize T c = t at hle
    induction t with
    | bot => exact absurd hle (by simp)
    | top => exact absurd hle (by simp)
    | coe t =>
      refine ⟨t * (Real.sqrt r)⁻¹, ?_⟩
      show (if ((Real.sqrt r : ℝ) : EReal) = 0 then _ else (t : EReal) * ((Real.sqrt r : ℝ) : EReal)⁻¹) = _
      rw [if_neg (by exact_mod_cast hp.ne'), EReal.coe_mul, EReal.coe_inv]

/-- The similarity of a finite reference vector and a vector that is not zero is real. -/
theorem simE_real (R T : Fin 256 → EReal) (hR : ∀ c, IsReal (R c)) (he : 0 < ∑ c, T c * T c) : simE R T = ((simE R T).toReal : ℝ) := by
  obtain ⟨v, hv⟩ := isReal_sum Finset.univ (fun c => R c * Ideal.div (T c) (Ideal.sqrt (∑ c, T c * T c))) fun c _ => by
    obtain ⟨p, hp⟩ := hR c
    obtain ⟨q, hq⟩ := isReal_div T he c
    exact ⟨p * q, by rw [hp, hq, EReal.coe_mul]⟩
  unfold simE
  rw [hv, EReal.toReal_coe]

theorem isReal_of_abs_lt {x : EReal} (h : max x (-x) < ⊤) : IsReal x := by
  induction x with
  | bot => simp at h
  | top => simp at h
  | coe r => exact ⟨r, rfl⟩

end Cert.Proof

end
-- ==== Proof.Spec.lean ====
/- The two results as functions of the arguments, and what the precondition says of them. -/
module

public import proofs.«01_k».proof.Proof.LabelValue
public import proofs.«01_k».proof.Proof.Sims

@[expose] public section

noncomputable section

namespace Cert.Proof

open Idealize.ShloMosaic

/-- The shapes of the arguments and of the results. -/
abbrev ImgS : Shape := ⟨4, ![1, 256, 64, 64]⟩
abbrev RefS : Shape := ⟨3, ![8, 1, 256]⟩
abbrev PtsS : Shape := ⟨3, ![8, 256, 3]⟩
abbrev BgS : Shape := ⟨3, ![8, 1, 2]⟩

section
variable (A : ImgS.Idx → EReal) (B : RefS.Idx → EReal)

/-- The reference features are finite and no pixel's energy is zero. -/
structure Good : Prop where
  fin : ∀ (l : Fin 8) (k : Fin 256), IsReal (B (ix3 l 0 k))
  pos : ∀ a b : Fin 64, 0 < ∑ k : Fin 256, A (ix4 0 k a b) * A (ix4 0 k a b)

/-- The similarity of label `l` at the pixel `(a, b)` of the features. -/
def simAt (l : Fin 8) (a b : Fin 64) : EReal := simE (fun k => B (ix3 l 0 k)) (fun k => A (ix4 0 k a b))

/-- The same as a real number. -/
def simR (l : Fin 8) (a b : ℕ) : ℝ := (simAt A B l ⟨a % 64, by omega⟩ ⟨b % 64, by omega⟩).toReal

variable {A B} in
theorem Good.sim (H : Good A B) (l : Fin 8) (a b : Fin 64) : simAt A B l a b = ((simR A B l a b : ℝ) : EReal) := by
  unfold simR
  rw [show (⟨(a : ℕ) % 64, by omega⟩ : Fin 64) = a from Fin.ext (Nat.mod_eq_of_lt a.isLt),
    show (⟨(b : ℕ) % 64, by omega⟩ : Fin 64) = b from Fin.ext (Nat.mod_eq_of_lt b.isLt)]
  exact simE_real _ _ (fun k => H.fin l k) (H.pos a b)

/-- The cell that a label's sort puts at place `j`. -/
def place (s : ℕ → ℕ → ℝ) : Fin 256 → Fin 256 := sortedFrom fun i j : Fin 256 => decide (key s j < key s i)

theorem place_iff (s : ℕ → ℕ → ℝ) (i j : Fin 256) : rankOf (fun i : Fin 256 => key s i) i = j ↔ i = place s j :=
  rank_eq_iff (fun i : Fin 256 => key s i) _ (fun i j => by simp) i j

/-- The points. -/
def ptsOut : PtsS.Idx → EReal := fun i => point (simR A B (i 0)) (place (simR A B (i 0)) (i 1)) (i 2)

/-- The background points. -/
def bgOut : BgS.Idx → EReal := fun i => ![((mX (simR A B (i 0)) : ℝ) : EReal), ((mY (simR A B (i 0)) : ℝ) : EReal)] (i 2)

end

end Cert.Proof

end
-- ==== Proof.RefMap.lean ====
/- The reference's similarities, its weights and its map. -/
module

public import proofs.«01_k».proof.Proof.Gen.ReferenceIdeal.Read
public import proofs.«01_k».proof.Proof.Spec
public import proofs.«01_k».proof.Proof.Words

@[expose] public section

set_option maxRecDepth 16384

noncomputable section

namespace Cert.Proof

open Idealize.ShloMosaic Cert.ReferenceIdeal Cert.ReferenceIdeal.Read

variable (A : ImgS.Idx → EReal) (B : RefS.Idx → EReal)

theorem v7_val (l : Fin 8) (a b : Fin 64) : val_main_v7 (F := Ideal) A B (ix3 l a b) = simAt A B l a b := by
  unfold simAt simE
  pointwise [val_main_v7, val_main_v6, val_main_v5, val_main_v4, val_main_v3, val_main_v2, val_main_v1, val_main_call0_v2,
    val_main_call0_v1, val_main_call0_v0, val_main_call0_cst, val_main_v0]

theorem sitofp_nat {n : ℕ} (h : n < 2 ^ 31) : FloatOps.sitofp (F := Ideal) .f32 (BitVec.ofNat 32 n) = ((n : ℝ) : EReal) := by
  show (((BitVec.ofNat 32 n).toInt : ℝ) : EReal) = _
  rw [toInt_word h]
  rfl

theorem half_word : Ideal.ofBits .f32 1056964608#32 = ((1 / 2 : ℝ) : EReal) := by
  simp [Ideal.ofBits, Ideal.ieee]
  try (rw [← EReal.coe_mul]; norm_num)

theorem sixteenth_word : Ideal.ofBits .f32 1031798784#32 = ((1 / 16 : ℝ) : EReal) := by
  simp [Ideal.ofBits, Ideal.ieee]
  try (rw [← EReal.coe_mul]; norm_num)

theorem coe_max (x y : ℝ) : max (x : EReal) (y : EReal) = ((max x y : ℝ) : EReal) := (EReal.coe_strictMono.monotone.map_max).symm

theorem raw_eq (i k : ℕ) : max (0 : EReal) (1 - FloatOps.absf (F := Ideal) (φ := .f32) ((((i : ℝ) : EReal) + ((1 / 2 : ℝ) : EReal)) * ((1 / 16 : ℝ) : EReal)
    - ((1 / 2 : ℝ) : EReal) - ((k : ℝ) : EReal))) = (((rawN i k : ℝ) / 32 : ℝ) : EReal) := by
  rw [← EReal.coe_add, ← EReal.coe_mul, ← EReal.coe_sub, ← EReal.coe_sub]
  have e : ((i : ℝ) + 1 / 2) * (1 / 16) - 1 / 2 - k = (((2 * i : ℤ) - 15 - 32 * k : ℤ) : ℝ) / 32 := by push_cast; ring
  rw [e]
  unfold rawN
  generalize (2 * i : ℤ) - 15 - 32 * k = d
  show max (0 : EReal) (1 - max (((d : ℝ) / 32 : ℝ) : EReal) (-(((d : ℝ) / 32 : ℝ) : EReal))) = _
  rw [← EReal.coe_neg, coe_max, ← EReal.coe_one, ← EReal.coe_sub, ← EReal.coe_zero, coe_max]
  congr 1
  change max 0 (1 - |(d : ℝ) / 32|) = _
  rw [abs_div, abs_of_pos (show (0 : ℝ) < 32 by norm_num), ← Int.cast_abs, ← Nat.cast_natAbs]
  rcases le_total d.natAbs 32 with h | h
  · rw [Nat.cast_sub h, max_eq_right]
    · simp; ring
    · have : ((d.natAbs : ℕ) : ℝ) ≤ 32 := by exact_mod_cast h
      simp only [Int.cast_natCast, sub_nonneg]
      rw [div_le_one (by norm_num)]
      exact this
  · rw [Nat.sub_eq_zero_of_le h, max_eq_left]
    · simp
    · have : (32 : ℝ) ≤ ((d.natAbs : ℕ) : ℝ) := by exact_mod_cast h
      simp only [Int.cast_natCast, sub_nonpos]
      rw [le_div_iff₀ (by norm_num)]
      linarith

theorem v25_val (i : Fin 1024) (k : Fin 64) : val_main_v25 (F := Ideal) (ix2 i k) = (((rawN i k : ℝ) / 32 : ℝ) : EReal) := by
  pointwise [val_main_v25, val_main_v24, val_main_v23, val_main_v22, val_main_v21, val_main_v20, val_main_v19, val_main_v18,
    val_main_v17, val_main_v16, val_main_v15, val_main_v14, val_main_v13, val_main_v12, val_main_v11, val_main_v10, val_main_v9,
    val_main_v8, val_main_cst, val_main_cst_0, val_main_cst_1, val_main_cst_2, val_main_cst_3]
  rw [sitofp_nat (show (i : ℕ) < 2 ^ 31 by omega), sitofp_nat (show (k : ℕ) < 2 ^ 31 by omega), half_word, sixteenth_word]
  exact raw_eq i k

theorem v29_raw (i : Fin 1024) (k : Fin 64) : val_main_v29 (F := Ideal) (ix2 i k)
    = Ideal.div (val_main_v25 (F := Ideal) (ix2 i k)) (∑ k' : Fin 64, val_main_v25 (F := Ideal) (ix2 i k')) := by
  pointwise [val_main_v29, val_main_v28, val_main_v27, val_main_v26, val_main_cst_4]

theorem v31_raw (l : Fin 8) (y x : Fin 1024) : val_main_v31 (F := Ideal) A B (ix3 l y x)
    = ∑ b : Fin 64, (∑ a : Fin 64, val_main_v7 (F := Ideal) A B (ix3 l a b) * val_main_v29 (F := Ideal) (ix2 y a))
      * val_main_v29 (F := Ideal) (ix2 x b) := by
  pointwise [val_main_v31, val_main_v30]

theorem v32_raw (l : Fin 8) (p : Fin 1048576) : val_main_v32 (F := Ideal) A B (ix2 l p)
    = val_main_v31 (F := Ideal) A B (ix3 l ⟨p / 1024, by omega⟩ ⟨p % 1024, by omega⟩) := by
  pointwise [val_main_v32]

theorem foldl_sum (f : ℕ → ℕ) (n : ℕ) : (List.range n).foldl (fun s k => s + f k) 0 = ∑ k ∈ Finset.range n, f k := by
  induction n with
  | zero => rfl
  | succ n ih => rw [List.range_succ, List.foldl_append, ih, Finset.sum_range_succ]; rfl

theorem sum_raw (i : Fin 1024) : ∑ k : Fin 64, rawN i k = rawSum i := by
  rw [← sum_rawN i, Fin.sum_univ_eq_sum_range (fun k => rawN i k) 64, foldl_sum]

theorem rawSum_pos (i : ℕ) : 0 < rawSum i := by
  unfold rawSum
  split_ifs <;> omega

theorem v29_val (i : Fin 1024) (k : Fin 64) : val_main_v29 (F := Ideal) (ix2 i k) = ((hat i k : ℝ) : EReal) := by
  rw [v29_raw]
  simp only [v25_val]
  have hs : (∑ k' : Fin 64, (((rawN i k' : ℝ) / 32 : ℝ) : EReal)) = (((rawSum i : ℝ) / 32 : ℝ) : EReal) := by
    rw [← coe_sum, ← Finset.sum_div, ← sum_raw i, Nat.cast_sum]
  have hp : (0 : ℝ) < rawSum i := by exact_mod_cast rawSum_pos i
  rw [hs]
  unfold Ideal.div
  rw [if_neg (by rw [EReal.coe_eq_zero]; positivity), ← EReal.coe_inv, ← EReal.coe_mul]
  congr 1
  unfold hat
  have h : (rawN i k : ℝ) * 32 = hatN i k * rawSum i := by exact_mod_cast rawN_eq i k
  field_simp
  linarith

theorem v31_val (H : Good A B) (l : Fin 8) (y x : Fin 1024) :
    val_main_v31 (F := Ideal) A B (ix3 l y x) = ((umap (simR A B l) y x : ℝ) : EReal) := by
  rw [v31_raw]
  simp only [v29_val, v7_val, H.sim, ← EReal.coe_mul, ← coe_sum]
  congr 1
  unfold umap
  simp only [Finset.sum_mul, Finset.mul_sum]
  rw [Finset.sum_comm]
  exact Finset.sum_congr rfl fun a _ => Finset.sum_congr rfl fun b _ => by ring

theorem v32_val (H : Good A B) (l : Fin 8) (p : Fin 1048576) :
    val_main_v32 (F := Ideal) A B (ix2 l p) = ((umap (simR A B l) (p / 1024 : ℕ) (p % 1024 : ℕ) : ℝ) : EReal) := by
  rw [v32_raw, v31_val A B H]

end Cert.Proof

end
-- ==== Proof.SortGather.lean ====
/- A row's stable sort, its greatest entry, and entries taken from a row, each read at a place. -/
module

public import proofs.«01_k».proof.Proof.Words
public import Idealize.ShloMosaic.Lib.ValueIdxCoords

@[expose] public section

noncomputable section

namespace Cert.Proof

open Idealize.ShloMosaic

theorem along_ix2 {m n : ℕ} (l : Fin m) (j k : Fin n) :
    (ix2 l j : (⟨2, ![m, n]⟩ : Shape).Idx).along ⟨1, Nat.lt_succ_self 1⟩ k = ix2 l k := by
  funext a
  match a with
  | ⟨0, _⟩ => rfl
  | ⟨1, _⟩ => rfl

/-- The second operand of a stable sort along rows. -/
theorem sort2_row {m n : ℕ} {α β : Type} (cmp : α × β → α × β → BitVec 1) (x : (⟨2, ![m, n]⟩ : Shape).Idx → α)
    (y : (⟨2, ![m, n]⟩ : Shape).Idx → β) (l : Fin m) (j : Fin n) :
    (Host.sort2 ⟨2, ![m, n]⟩ 1 cmp x y).2 (ix2 l j)
      = y (ix2 l (sortedFrom (fun k k' : Fin n => cmp (x (ix2 l k), y (ix2 l k)) (x (ix2 l k'), y (ix2 l k')) == 1#1) j)) := by
  unfold Host.sort2
  rw [dif_pos (show (1 : ℕ) < (⟨2, ![m, n]⟩ : Shape).rank from Nat.lt_succ_self 1)]
  simp only
  refine (congrArg y (along_ix2 l j _)).trans ?_
  congr 2
  refine congrFun (congrArg sortedFrom ?_) j
  funext k k'
  rw [along_ix2 l j k, along_ix2 l j k']

/-- Where a row's greatest entry is. -/
theorem topK_row {m n : ℕ} (hn : 0 < n) {α : Type} (gt : α → α → BitVec 1) (x : (⟨2, ![m, n]⟩ : Shape).Idx → α)
    (h : (⟨2, ![m, n]⟩ : Shape).Slices (fun _ => 0) ⟨2, ![m, 1]⟩) (l : Fin m) :
    (Host.topK ⟨2, ![m, 1]⟩ 1 gt x h).2 (ix2 l 0)
      = BitVec.ofNat 32 (sortedFrom (fun k k' : Fin n => gt (x (ix2 l k)) (x (ix2 l k')) == 1#1) ⟨0, hn⟩ : Fin n) := by
  unfold Host.topK
  simp only
  unfold extractStridedSlice
  refine (congrArg (Host.sort2 _ _ _ _ _).2 (show _ = ix2 l (⟨0, hn⟩ : Fin n) from ?_)).trans ?_
  · funext a
    match a with
    | ⟨0, _⟩ => exact Fin.ext (by simp)
    | ⟨1, _⟩ => exact Fin.ext (by simp)
  · rw [sort2_row]
    rfl

/-- The dimensions of a take along rows: entry `(l, j)` of the result is the row's entry at the index held at `(l, j)`. -/
abbrev rowTake (m N n : ℕ) (wf : GatherDims.WF ⟨2, ![m, N]⟩ ⟨3, ![m, n, 1]⟩ ⟨2, ![m, n]⟩ [] [1] [0] [1] [0] 2 ![1, 1]) :
    GatherDims ⟨2, ![m, N]⟩ ⟨3, ![m, n, 1]⟩ ⟨2, ![m, n]⟩ where
  offsetDims := []
  collapsedSliceDims := [1]
  operandBatchingDims := [0]
  startIndicesBatchingDims := [0]
  startIndexMap := [1]
  indexVectorDim := 2
  sliceSizes := ![1, 1]
  wf := wf

theorem rowTake_apply {α : Type} {m N n : ℕ}
    (wf : GatherDims.WF ⟨2, ![m, N]⟩ ⟨3, ![m, n, 1]⟩ ⟨2, ![m, n]⟩ [] [1] [0] [1] [0] 2 ![1, 1])
    (x : (⟨2, ![m, N]⟩ : Shape).Idx → α) (idx : IVec ⟨3, ![m, n, 1]⟩ 32) (l : Fin m) (j : Fin n) (k : ℕ) (hk : k < N) (hN : N ≤ 2 ^ 31)
    (hi : idx (ix3 l j 0) = BitVec.ofNat 32 k) : Host.gather (rowTake m N n wf) x idx (ix2 l j) = x (ix2 l ⟨k, hk⟩) := by
  unfold Host.gather
  refine congrArg x (funext fun a => Fin.ext ?_)
  show (rowTake m N n wf).start (ix2 l j) idx a + (rowTake m N n wf).batchCoord (ix2 l j) a + (rowTake m N n wf).offCoord (ix2 l j) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    exact (dif_pos (List.mem_singleton.mpr rfl)).trans rfl
  | ⟨1, _⟩ =>
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    have hs : (rowTake m N n wf).siIdx (ix2 l j) ⟨List.idxOf (1 : Fin 2) (rowTake m N n wf).startIndexMap,
        List.idxOf_lt_length_iff.2 (List.mem_singleton.mpr rfl)⟩ = ix3 l j 0 := by
      funext b
      match b with
      | ⟨0, _⟩ => rfl
      | ⟨1, _⟩ => rfl
      | ⟨2, _⟩ => rfl
    refine (congrArg (fun w : BitVec 32 => min w.toInt.toNat (N - 1)) ((congrArg idx hs).trans hi)).trans ?_
    show min (BitVec.ofNat 32 k).toInt.toNat (N - 1) = k
    rw [toInt_word (by omega), Int.toNat_natCast]
    omega

/-- The same of rows whose entries are short vectors. -/
abbrev vecTake (m N n r : ℕ) (wf : GatherDims.WF ⟨3, ![m, N, r]⟩ ⟨3, ![m, n, 1]⟩ ⟨3, ![m, n, r]⟩ [2] [1] [0] [1] [0] 2 ![1, 1, r]) :
    GatherDims ⟨3, ![m, N, r]⟩ ⟨3, ![m, n, 1]⟩ ⟨3, ![m, n, r]⟩ where
  offsetDims := [2]
  collapsedSliceDims := [1]
  operandBatchingDims := [0]
  startIndicesBatchingDims := [0]
  startIndexMap := [1]
  indexVectorDim := 2
  sliceSizes := ![1, 1, r]
  wf := wf

theorem vecTake_apply {α : Type} {m N n r : ℕ}
    (wf : GatherDims.WF ⟨3, ![m, N, r]⟩ ⟨3, ![m, n, 1]⟩ ⟨3, ![m, n, r]⟩ [2] [1] [0] [1] [0] 2 ![1, 1, r])
    (x : (⟨3, ![m, N, r]⟩ : Shape).Idx → α) (idx : IVec ⟨3, ![m, n, 1]⟩ 32) (l : Fin m) (j : Fin n) (c : Fin r) (k : ℕ) (hk : k < N)
    (hN : N ≤ 2 ^ 31) (hi : idx (ix3 l j 0) = BitVec.ofNat 32 k) :
    Host.gather (vecTake m N n r wf) x idx (ix3 l j c) = x (ix3 l ⟨k, hk⟩ c) := by
  unfold Host.gather
  refine congrArg x (funext fun a => Fin.ext ?_)
  show (vecTake m N n r wf).start (ix3 l j c) idx a + (vecTake m N n r wf).batchCoord (ix3 l j c) a
    + (vecTake m N n r wf).offCoord (ix3 l j c) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    exact (dif_pos (List.mem_singleton.mpr rfl)).trans rfl
  | ⟨1, _⟩ =>
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    have hs : (vecTake m N n r wf).siIdx (ix3 l j c) ⟨List.idxOf (1 : Fin 3) (vecTake m N n r wf).startIndexMap,
        List.idxOf_lt_length_iff.2 (List.mem_singleton.mpr rfl)⟩ = ix3 l j 0 := by
      funext b
      match b with
      | ⟨0, _⟩ => rfl
      | ⟨1, _⟩ => rfl
      | ⟨2, _⟩ => rfl
    refine (congrArg (fun w : BitVec 32 => min w.toInt.toNat (N - 1)) ((congrArg idx hs).trans hi)).trans ?_
    show min (BitVec.ofNat 32 k).toInt.toNat (N - 1) = k
    rw [toInt_word (by omega), Int.toNat_natCast]
    omega
  | ⟨2, _⟩ =>
    rw [GatherDims.batchCoord_eq_zero _ _ _ (fun h => by simp at h)]
    unfold GatherDims.start
    rw [dif_neg (fun h => by simp at h)]
    unfold GatherDims.offCoord
    rw [dif_pos ((GatherDims.mem_sKept _ _).mpr ⟨fun h => by simp at h, fun h => by simp at h⟩)]
    simp only [Nat.zero_add]
    rfl

end Cert.Proof

end
-- ==== Proof.RefBg.lean ====
/- The reference's background points. -/
module

public import proofs.«01_k».proof.Proof.RefMap
public import proofs.«01_k».proof.Proof.SortGather

@[expose] public section

set_option maxRecDepth 16384

noncomputable section

namespace Cert.Proof

open Idealize.ShloMosaic Cert.ReferenceIdeal Cert.ReferenceIdeal.Read

/-- What no position is ahead of comes first. -/
theorem first_sorted {κ : Type} [LinearOrder κ] {n : ℕ} (hn : 0 < n) (k : Fin n → κ) (C : Fin n → Fin n → Bool)
    (hC : ∀ i j, C i j = true ↔ k j < k i) (i₀ : Fin n) (h : ∀ j, ¬ Ahead k j i₀) : sortedFrom C ⟨0, hn⟩ = i₀ := by
  refine ((rank_eq_iff k C hC i₀ ⟨0, hn⟩).mp ?_).symm
  unfold rankOf
  rw [Finset.card_eq_zero, Finset.filter_eq_empty_iff]
  exact fun j _ => h j

/-- The reference's "greater" is the order of the extended reals. -/
theorem gt_true (x y : EReal) : (FloatOps.cmpfTotal (F := Ideal) (φ := .f32) .gt x y == 1#1) = true ↔ y < x := by
  show (BitVec.ofBool (decide (y < x)) == 1#1) = true ↔ _
  by_cases h : y < x <;> simp [h]

variable {A : ImgS.Idx → EReal} {B : RefS.Idx → EReal} (H : Good A B) (l : Fin 8)

include H in
theorem v33_val (p : Fin 1048576) : val_main_v33 (F := Ideal) A B (ix2 l p)
    = ((-umap (simR A B l) (p / 1024 : ℕ) (p % 1024 : ℕ) : ℝ) : EReal) := by
  rw [val_main_v33_apply, v32_val A B H]
  exact (EReal.coe_neg _).symm

include H in
theorem indices_val : val_main_indices (F := Ideal) A B (ix2 l 0)
    = BitVec.ofNat 32 (mY (simR A B l) * 1024 + mX (simR A B l)) := by
  have S := min_spec (simR A B l)
  have hy := S.hy
  have hx := S.hx
  unfold val_main_indices
  refine (topK_row (by decide) _ _ _ l).trans (congrArg (BitVec.ofNat 32) ?_)
  refine (congrArg Fin.val (first_sorted (by decide) (fun p : Fin 1048576 => -umap (simR A B l) (p / 1024 : ℕ) (p % 1024 : ℕ)) _
    (fun i j => ?_) ⟨mY (simR A B l) * 1024 + mX (simR A B l), by omega⟩ (fun j => ?_)))
  · rw [gt_true, v33_val H, v33_val H, EReal.coe_lt_coe_iff]
  · have e1 : (mY (simR A B l) * 1024 + mX (simR A B l)) / 1024 = mY (simR A B l) := by omega
    have e2 : (mY (simR A B l) * 1024 + mX (simR A B l)) % 1024 = mX (simR A B l) := by omega
    unfold Ahead
    simp only [Fin.lt_def, e1, e2, S.hm, neg_lt_neg_iff, neg_inj]
    rintro (h | ⟨h, h'⟩)
    · exact absurd (S.lb (j / 1024) (j % 1024) (by omega) (by omega)) (not_le.mpr h)
    · have := S.least (j / 1024) (j % 1024) (by omega) (by omega) h
      omega

include H in
theorem v34_val : val_main_v34 (F := Ideal) A B (ix2 l 0) = BitVec.ofNat 32 (mY (simR A B l)) := by
  have S := min_spec (simR A B l)
  have hy := S.hy
  have hx := S.hx
  refine (Routing.pyDiv_ap Gen.bcast_S_S8x1 (val_main_indices (F := Ideal) A B) (val_main_call1_v0 (F := Ideal)) (ix2 l 0)
    (b := 1024) (indices_val H l) rfl (by omega) (by decide) (by decide)).trans ?_
  congr 1
  omega

theorem v37_raw : val_main_v37 (F := Ideal) A B (ix2 l 0)
    = IntOp.subi (val_main_indices (F := Ideal) A B (ix2 l 0)) (IntOp.muli (val_main_v34 (F := Ideal) A B (ix2 l 0)) 1024#32) := by
  unfold val_main_v37 val_main_v36
  generalize val_main_v34 (F := Ideal) A B = y
  generalize val_main_indices (F := Ideal) A B = z
  pointwise [val_main_v35, val_main_c_5]

include H in
theorem v37_val : val_main_v37 (F := Ideal) A B (ix2 l 0) = BitVec.ofNat 32 (mX (simR A B l)) := by
  rw [v37_raw, indices_val H, v34_val H]
  show BitVec.ofNat 32 _ - BitVec.ofNat 32 _ * BitVec.ofNat 32 1024 = _
  rw [← BitVec.ofNat_mul, BitVec.ofNat_add]
  rw [BitVec.add_comm]
  exact BitVec.add_sub_cancel _ _

theorem v40_raw (r : Fin 2) : val_main_v40 (F := Ideal) A B (ix3 l 0 r)
    = ![val_main_v37 (F := Ideal) A B (ix2 l 0), val_main_v34 (F := Ideal) A B (ix2 l 0)] r := by
  unfold val_main_v40 val_main_v38 val_main_v39
  generalize val_main_v34 (F := Ideal) A B = y
  generalize val_main_v37 (F := Ideal) A B = z
  match r with
  | ⟨0, _⟩ => pointwise
  | ⟨1, _⟩ => pointwise

include H in
theorem v41_val : val_main_v41 (F := Ideal) A B = bgOut A B := by
  funext i
  obtain ⟨l, u, r, rfl⟩ : ∃ l u r, i = ix3 l u r := ⟨i 0, i 1, i 2, eq_ix3 i⟩
  obtain rfl : u = 0 := Subsingleton.elim _ _
  have S := min_spec (simR A B l)
  have hy := S.hy
  have hx := S.hx
  rw [val_main_v41_apply, v40_raw, v37_val H, v34_val H]
  match r with
  | ⟨0, _⟩ => exact sitofp_nat (by omega)
  | ⟨1, _⟩ => exact sitofp_nat (by omega)

end Cert.Proof

end
-- ==== Proof.RefCells.lean ====
/- The reference's cells: the greatest value of each and the first place that takes it. -/
module

public import proofs.«01_k».proof.Proof.RefMap

@[expose] public section

set_option maxRecDepth 16384

noncomputable section

namespace Cert.Proof

open Idealize.ShloMosaic Cert.ReferenceIdeal Cert.ReferenceIdeal.Read

theorem neg_inf : Ideal.ofBits .f32 4286578688#32 = ⊥ := by
  simp [Ideal.ofBits, Ideal.ieee]

variable (A : ImgS.Idx → EReal) (B : RefS.Idx → EReal)

theorem v44_raw (l : Fin 8) (g h : Fin 16) (a b : Fin 64) : val_main_v44 (F := Ideal) A B (ix5 l g a h b)
    = val_main_v32 (F := Ideal) A B (ix2 l ⟨g * 65536 + a * 1024 + h * 64 + b, by omega⟩) := by
  pointwise [val_main_v44]

theorem v44_val (H : Good A B) (l : Fin 8) (g h : Fin 16) (a b : Fin 64) : val_main_v44 (F := Ideal) A B (ix5 l g a h b)
    = ((umap (simR A B l) (64 * g + a : ℕ) (64 * h + b : ℕ) : ℝ) : EReal) := by
  rw [v44_raw, v32_val A B H]
  rw [show (g * 65536 + a * 1024 + h * 64 + b : ℕ) / 1024 = 64 * g + a by omega,
    show (g * 65536 + a * 1024 + h * 64 + b : ℕ) % 1024 = 64 * h + b by omega]

theorem v47_raw (l : Fin 8) (g h : Fin 16) (a b : Fin 64) : val_main_v47 (F := Ideal) A B (ix5 l g a h b)
    = if thr < val_main_v44 (F := Ideal) A B (ix5 l g a h b) then val_main_v44 (F := Ideal) A B (ix5 l g a h b) else ⊥ := by
  unfold val_main_v47 val_main_v46
  generalize val_main_v44 (F := Ideal) A B = y
  rw [← neg_inf]
  pointwise [val_main_v45, val_main_cst_6, val_main_call2_v2, val_main_call2_v1, val_main_call2_v0, val_main_cst_7]
  rfl

theorem v48_raw (l : Fin 8) (g h : Fin 16) : val_main_v48 (F := Ideal) A B (ix3 l g h)
    = Finset.fold max ⊥ (val_main_v47 (F := Ideal) A B) {i | Gen.reducesTo_S8x16x64x16x64_S8x16x16_d2_4.drop i = ix3 l g h} := by
  unfold val_main_v48
  generalize val_main_v47 (F := Ideal) A B = y
  rw [← neg_inf]
  pointwise [val_main_cst_8]

theorem v52_raw (l : Fin 8) (g h : Fin 16) (a b : Fin 64) : val_main_v52 (F := Ideal) A B (ix5 l g a h b)
    = if val_main_v47 (F := Ideal) A B (ix5 l g a h b) = val_main_v48 (F := Ideal) A B (ix3 l g h)
      then BitVec.ofNat 32 (g * 65536 + a * 1024 + h * 64 + b) else 1048576#32 := by
  unfold val_main_v52 val_main_v51 val_main_v50 val_main_v49
  generalize val_main_v47 (F := Ideal) A B = y
  generalize val_main_v48 (F := Ideal) A B = z
  pointwise [val_main_call3_v2, val_main_call3_v1, val_main_call3_v0, val_main_c_9, val_main_v43, val_main_v42]

theorem v53_raw (l : Fin 8) (g h : Fin 16) : val_main_v53 (F := Ideal) A B (ix3 l g h)
    = Finset.fold IntOp.minsi 2147483647#32 (val_main_v52 (F := Ideal) A B)
      {i | Gen.reducesTo_S8x16x64x16x64_S8x16x16_d2_4.drop i = ix3 l g h} := by
  unfold val_main_v53
  generalize val_main_v52 (F := Ideal) A B = y
  pointwise [val_main_c_10]

theorem v54_raw (l : Fin 8) (i : Fin 256) : val_main_v54 (F := Ideal) A B (ix2 l i)
    = val_main_v53 (F := Ideal) A B (ix3 l ⟨i / 16, by omega⟩ ⟨i % 16, by omega⟩) := by
  unfold val_main_v54
  generalize val_main_v53 (F := Ideal) A B = y
  pointwise

theorem v58_raw (l : Fin 8) (i : Fin 256) : val_main_v58 (F := Ideal) A B (ix2 l i)
    = val_main_v57 (F := Ideal) A B (ix3 l ⟨i / 16, by omega⟩ ⟨i % 16, by omega⟩) := by
  unfold val_main_v58
  generalize val_main_v57 (F := Ideal) A B = y
  pointwise

theorem v56_val (i : S8x16x16.Idx) : val_main_v56 (F := Ideal) i = ⊤ := by
  rw [val_main_v56_apply, val_main_cst_11_apply]
  exact pos_inf

theorem olt_abs (y z : FVec Ideal S8x16x16 .f32) (i : S8x16x16.Idx) :
    cmpf .olt (Host.absf y) z i = FloatOps.cmpf (F := Ideal) .olt (FloatOps.absf (F := Ideal) (φ := .f32) (y i)) (z i) := rfl

theorem olt_word (x z : EReal) : FloatOps.cmpf (F := Ideal) (φ := .f32) .olt x z = Ideal.cmp .olt x z := rfl

theorem abs_word (x : EReal) : FloatOps.absf (F := Ideal) (φ := .f32) x = max x (-x) := rfl

theorem v57_raw (i : S8x16x16.Idx) : val_main_v57 (F := Ideal) A B i
    = Ideal.cmp .olt (max (val_main_v48 (F := Ideal) A B i) (-val_main_v48 (F := Ideal) A B i)) ⊤ := by
  unfold val_main_v57 val_main_v55
  rw [olt_abs, olt_word, abs_word, v56_val]

theorem drop_cell (l : Fin 8) (g h : Fin 16) (a b : Fin 64) :
    Gen.reducesTo_S8x16x64x16x64_S8x16x16_d2_4.drop (ix5 l g a h b) = ix3 l g h := by
  funext d
  match d with
  | ⟨0, _⟩ => rfl
  | ⟨1, _⟩ => rfl
  | ⟨2, _⟩ => rfl

/-- The places that a cell's reduction reads. -/
theorem mem_cell (l : Fin 8) (g h : Fin 16) (i : S8x16x64x16x64.Idx)
    (hi : i ∈ (Finset.univ.filter fun i : S8x16x64x16x64.Idx => Gen.reducesTo_S8x16x64x16x64_S8x16x16_d2_4.drop i = ix3 l g h)) :
    ∃ a b : Fin 64, i = ix5 l g a h b := by
  have e := (Finset.mem_filter.mp hi).2
  obtain ⟨l', g', a, h', b, rfl⟩ : ∃ l' g' a h' b, i = ix5 l' g' a h' b := ⟨i 0, i 1, i 2, i 3, i 4, eq_ix5 i⟩
  rw [drop_cell] at e
  obtain rfl : l' = l := congrFun e 0
  obtain rfl : g' = g := congrFun e 1
  obtain rfl : h' = h := congrFun e 2
  exact ⟨a, b, rfl⟩

theorem cell_mem (l : Fin 8) (g h : Fin 16) (a b : Fin 64) : ix5 l g a h b
    ∈ (Finset.univ.filter fun i : S8x16x64x16x64.Idx => Gen.reducesTo_S8x16x64x16x64_S8x16x16_d2_4.drop i = ix3 l g h) :=
  Finset.mem_filter.mpr ⟨Finset.mem_univ _, drop_cell l g h a b⟩

/-- The place of a cell where its greatest value is. -/
theorem cell_place (s : ℕ → ℕ → ℝ) (g h : Fin 16) : ∃ a b : Fin 64, cY s g h = 64 * g + a ∧ cX s g h = 64 * h + b :=
  have H := cell_spec s g h
  have hy := H.hy
  have hx := H.hx
  ⟨⟨cY s g h % 64, by omega⟩, ⟨cX s g h % 64, by omega⟩, by simp only; omega, by simp only; omega⟩

section Values
variable {A B} (H : Good A B) (l : Fin 8) (g h : Fin 16)
include H

theorem v47_val (a b : Fin 64) : val_main_v47 (F := Ideal) A B (ix5 l g a h b)
    = if thr < ((umap (simR A B l) (64 * g + a : ℕ) (64 * h + b : ℕ) : ℝ) : EReal)
      then ((umap (simR A B l) (64 * g + a : ℕ) (64 * h + b : ℕ) : ℝ) : EReal) else ⊥ := by
  rw [v47_raw, v44_val A B H]

theorem v48_val : val_main_v48 (F := Ideal) A B (ix3 l g h)
    = if thr < ((cM (simR A B l) g h : ℝ) : EReal) then ((cM (simR A B l) g h : ℝ) : EReal) else ⊥ := by
  have S := cell_spec (simR A B l) g h
  obtain ⟨a₀, b₀, ea, eb⟩ := cell_place (simR A B l) g h
  have hle : ∀ a b : Fin 64, ((umap (simR A B l) (64 * g + a : ℕ) (64 * h + b : ℕ) : ℝ) : EReal) ≤ ((cM (simR A B l) g h : ℝ) : EReal) :=
    fun a b => EReal.coe_le_coe_iff.mpr (S.ub _ _ (by omega) (by omega))
  have hM := S.hM
  rw [ea, eb] at hM
  rw [v48_raw]
  refine fold_max_val _ _ _ (fun i hi => ?_) ⟨_, cell_mem l g h a₀ b₀, by rw [v47_val H, hM]⟩
  obtain ⟨a, b, rfl⟩ := mem_cell l g h i hi
  rw [v47_val H]
  split_ifs with h1 h2
  · exact hle a b
  · exact absurd (h1.trans_le (hle a b)) h2
  · exact bot_le
  · exact bot_le

theorem v53_val (hv : thr < ((cM (simR A B l) g h : ℝ) : EReal)) : val_main_v53 (F := Ideal) A B (ix3 l g h)
    = BitVec.ofNat 32 (cY (simR A B l) g h * 1024 + cX (simR A B l) g h) := by
  have S := cell_spec (simR A B l) g h
  obtain ⟨a₀, b₀, ea, eb⟩ := cell_place (simR A B l) g h
  have hM := S.hM
  have hleast := S.least
  rw [ea, eb] at hM hleast
  rw [ea, eb]
  refine word_of_toInt (by omega) ?_
  rw [v53_raw]
  refine fold_minsi _ _ _ _ ?_ (fun i hi => ?_) ⟨_, cell_mem l g h a₀ b₀, ?_⟩
  · rw [show (2147483647#32 : BitVec 32).toInt = 2147483647 by decide]; omega
  · obtain ⟨a, b, rfl⟩ := mem_cell l g h i hi
    rw [v52_raw, v47_val H, v48_val H, if_pos hv]
    split_ifs with h1 h2 h3
    · rw [toInt_word (by omega)]
      have := hleast (64 * g + a) (64 * h + b) (by omega) (by omega) (EReal.coe_eq_coe_iff.mp h2)
      omega
    · rw [show (1048576#32 : BitVec 32).toInt = 1048576 by decide]; omega
    · exact absurd h3.symm (EReal.coe_ne_bot _)
    · rw [show (1048576#32 : BitVec 32).toInt = 1048576 by decide]; omega
  · rw [v52_raw, v47_val H, v48_val H, hM, if_pos hv, if_pos rfl, toInt_word (by omega)]
    push_cast
    ring

theorem v58_val (i : Fin 256) : val_main_v58 (F := Ideal) A B (ix2 l i) = BitVec.ofBool (decide (thr < sc (simR A B l) i)) := by
  rw [v58_raw, v57_raw, v48_val H]
  unfold sc Ideal.cmp
  refine congrArg BitVec.ofBool (decide_eq_decide.mpr ?_)
  simp only
  split_ifs with hv
  · refine ⟨fun _ => hv, fun _ => ?_⟩
    rw [← EReal.coe_neg]
    exact max_lt (EReal.coe_lt_top _) (EReal.coe_lt_top _)
  · exact ⟨fun hh => absurd hh (by simp), fun hh => absurd hh hv⟩

end Values

end Cert.Proof

end
-- ==== Proof.RefPoints.lean ====
/- The reference's points. -/
module

public import proofs.«01_k».proof.Proof.RefCells
public import proofs.«01_k».proof.Proof.SortGather

@[expose] public section

set_option maxRecDepth 16384

noncomputable section

namespace Cert.Proof

open Idealize.ShloMosaic Cert.ReferenceIdeal Cert.ReferenceIdeal.Read

theorem low_lt_thr : low < thr := by
  unfold low thr
  simp only [Ideal.ofBits, Ideal.ieee]
  norm_num [Nat.shiftRight_eq_div_pow, show BitVec.extractLsb' 31 1 4048155338#32 = 1#1 by decide,
    show BitVec.extractLsb' 31 1 1028443341#32 = 0#1 by decide]
  rw [← EReal.coe_neg, EReal.coe_lt_coe_iff]
  norm_num

/-! ## Words in a range -/

theorem clip_word {k M : ℕ} (h : k ≤ M) (hM : M < 2 ^ 31) :
    IntOp.minsi (BitVec.ofNat 32 M) (IntOp.maxsi 0#32 (BitVec.ofNat 32 k)) = BitVec.ofNat 32 k := by
  refine word_of_toInt (by omega) ?_
  rw [SortNet.toInt_minsi, SortNet.toInt_maxsi, toInt_word hM, toInt_word (show k < 2 ^ 31 by omega)]
  show min (M : ℤ) (max 0 (k : ℤ)) = k
  omega

theorem wrap_word {k : ℕ} (h : k < 2 ^ 31) (x : BitVec 32) :
    Scalar.select (IntOp.cmpi .slt (BitVec.ofNat 32 k) 0#32) x (BitVec.ofNat 32 k) = BitVec.ofNat 32 k := by
  rw [slt_zero h]
  rfl

theorem range_word {k M : ℕ} (h : k ≤ M) (hM : M < 2 ^ 31) :
    IntOp.andi (IntOp.cmpi .sge (BitVec.ofNat 32 k) 0#32) (IntOp.cmpi .sle (BitVec.ofNat 32 k) (BitVec.ofNat 32 M)) = 1#1 := by
  have h1 : IntOp.cmpi .sge (BitVec.ofNat 32 k) 0#32 = 1#1 := by
    show BitVec.ofBool (decide ((0#32 : BitVec 32).toInt ≤ (BitVec.ofNat 32 k).toInt)) = 1#1
    rw [toInt_word (show k < 2 ^ 31 by omega), decide_eq_true (show (0#32 : BitVec 32).toInt ≤ (k : ℤ) from Int.natCast_nonneg k)]
    rfl
  have h2 : IntOp.cmpi .sle (BitVec.ofNat 32 k) (BitVec.ofNat 32 M) = 1#1 := by
    show BitVec.ofBool (decide ((BitVec.ofNat 32 k).toInt ≤ (BitVec.ofNat 32 M).toInt)) = 1#1
    rw [toInt_word hM, toInt_word (show k < 2 ^ 31 by omega), decide_eq_true (by exact_mod_cast h)]
    rfl
  rw [h1, h2]
  rfl

theorem select_one {α : Type} (x y : α) : Scalar.select 1#1 x y = x := rfl

/-- A conjunction of what always holds. -/
theorem fold_andi {ι : Type} (s : Finset ι) (f : ι → BitVec 1) (h : ∀ i ∈ s, f i = 1#1) : s.fold IntOp.andi 1#1 f = 1#1 := by
  classical
  induction s using Finset.induction_on with
  | empty => rfl
  | insert a s ha ih =>
    rw [Finset.fold_insert ha, h a (Finset.mem_insert_self a s), ih fun i hi => h i (Finset.mem_insert_of_mem hi)]
    rfl

theorem drop_last (l : Fin 8) (j : Fin 256) (u : Fin 1) : Gen.reducesTo_S8x256x1_S8x256_d2.drop (ix3 l j u) = ix2 l j := by
  funext d
  match d with
  | ⟨0, _⟩ => rfl
  | ⟨1, _⟩ => rfl

/-- The conjunction over an axis of length one. -/
theorem all_last (x : IVec S8x256x1 1) (l : Fin 8) (j : Fin 256) (h : x (ix3 l j 0) = 1#1) :
    Host.reduce IntOp.andi x (constantI S_ 1 1#1) Gen.reducesTo_S8x256x1_S8x256_d2 Gen.h_S_ (ix2 l j) = 1#1 := by
  have e : Host.reduce IntOp.andi x (constantI S_ 1 1#1) Gen.reducesTo_S8x256x1_S8x256_d2 Gen.h_S_ (ix2 l j)
      = Finset.fold IntOp.andi 1#1 x {i | Gen.reducesTo_S8x256x1_S8x256_d2.drop i = ix2 l j} := by
    pointwise
  rw [e]
  refine fold_andi _ _ fun i hi => ?_
  have hd := (Finset.mem_filter.mp hi).2
  obtain ⟨l', j', u, rfl⟩ : ∃ l' j' u, i = ix3 l' j' u := ⟨i 0, i 1, i 2, eq_ix3 i⟩
  rw [drop_last] at hd
  obtain rfl : l' = l := congrFun hd 0
  obtain rfl : j' = j := congrFun hd 1
  obtain rfl : u = 0 := Subsingleton.elim _ _
  exact h

/-- A float that is not zero's other name compares as the extended real it is. -/
theorem comparator_true (x y : EReal) (i j : BitVec 32) : (comparator_f32_i32_d1 (F := Ideal) (x, i) (y, j) == 1#1) = true ↔ x < y := by
  have z : ∀ x : EReal, Scalar.select (FloatOps.cmpf (F := Ideal) (φ := .f32) .oeq x (FloatOps.ofBits .f32 0x00000000#32))
      (FloatOps.ofBits (F := Ideal) .f32 0x00000000#32) x = x := fun x => by
    show Scalar.select (BitVec.ofBool (decide (x = Ideal.ofBits .f32 0x00000000#32))) (Ideal.ofBits .f32 0x00000000#32) x = x
    by_cases h : x = Ideal.ofBits .f32 0x00000000#32
    · rw [decide_eq_true h]; exact h.symm
    · rw [decide_eq_false h]; rfl
  have n : ∀ x y z : EReal, Scalar.select (FloatOps.cmpf (F := Ideal) (φ := .f32) .une x x) y z = z := fun x y z => by
    show Scalar.select (BitVec.ofBool (decide (x ≠ x))) y z = z
    rw [decide_eq_false (by simp)]; rfl
  unfold comparator_f32_i32_d1
  simp only [n, z]
  show (BitVec.ofBool (decide (x < y)) == 1#1) = true ↔ _
  by_cases h : x < y <;> simp [h]

variable (A : ImgS.Idx → EReal) (B : RefS.Idx → EReal) (l : Fin 8)

theorem v59_raw (i : Fin 256) : val_main_v59 (F := Ideal) A B (ix2 l i)
    = IntOp.minsi (BitVec.ofNat 32 1048575) (IntOp.maxsi 0#32 (val_main_v54 (F := Ideal) A B (ix2 l i))) := by
  unfold val_main_v59 val_main_call4_v2
  generalize val_main_v54 (F := Ideal) A B = y
  pointwise [val_main_call4_v4, val_main_call4_v3, val_main_c_13, val_main_call4_v1, val_main_call4_v0, val_main_c_12]
  rfl

theorem take_idx_raw (i : Fin 256) : val_main_call5_v5 (F := Ideal) A B (ix3 l i 0)
    = Scalar.select (IntOp.cmpi .slt (val_main_v59 (F := Ideal) A B (ix2 l i)) 0#32)
        (IntOp.addi (val_main_v59 (F := Ideal) A B (ix2 l i)) 1048576#32) (val_main_v59 (F := Ideal) A B (ix2 l i)) := by
  unfold val_main_call5_v5 val_main_call5_v4 val_main_call5_v1 val_main_call5_v3
  generalize val_main_v59 (F := Ideal) A B = y
  pointwise [val_main_call5_v0, val_main_call5_c, val_main_call5_v2, val_main_call5_c_0]

theorem take_mask_raw (i : Fin 256) : val_main_call5_v11 (F := Ideal) A B (ix3 l i 0)
    = IntOp.andi (IntOp.cmpi .sge (val_main_call5_v5 (F := Ideal) A B (ix3 l i 0)) 0#32)
        (IntOp.cmpi .sle (val_main_call5_v5 (F := Ideal) A B (ix3 l i 0)) (BitVec.ofNat 32 1048575)) := by
  unfold val_main_call5_v11 val_main_call5_v7 val_main_call5_v10
  generalize val_main_call5_v5 (F := Ideal) A B = y
  pointwise [val_main_call5_v6, val_main_call5_c_2, val_main_call5_v9, val_main_call5_v8, val_main_call5_c_1]

theorem v68_raw (i : Fin 256) (r : Fin 3) : val_main_v68 (F := Ideal) A B (ix3 l i r)
    = ![val_main_v62 (F := Ideal) A B (ix2 l i), val_main_v64 (F := Ideal) A B (ix2 l i), val_main_v60 (F := Ideal) A B (ix2 l i)] r := by
  unfold val_main_v68 val_main_v65 val_main_v66 val_main_v67
  generalize val_main_v62 (F := Ideal) A B = x
  generalize val_main_v64 (F := Ideal) A B = y
  generalize val_main_v60 (F := Ideal) A B = z
  match r with
  | ⟨0, _⟩ => pointwise
  | ⟨1, _⟩ => pointwise
  | ⟨2, _⟩ => pointwise

theorem v70_raw (i : Fin 256) (r : Fin 3) : val_main_v70 (F := Ideal) A B (ix3 l i r)
    = Scalar.select (val_main_v58 (F := Ideal) A B (ix2 l i)) (val_main_v68 (F := Ideal) A B (ix3 l i r)) neg1 := by
  unfold val_main_v70 val_main_call8_v1 val_main_v69
  generalize val_main_v58 (F := Ideal) A B = x
  generalize val_main_v68 (F := Ideal) A B = y
  pointwise [val_main_call8_v3, val_main_call8_v2, val_main_call8_v0, val_main_cst_16]
  rfl

theorem v71_raw (i : Fin 256) : val_main_v71 (F := Ideal) A B (ix2 l i)
    = Scalar.select (val_main_v58 (F := Ideal) A B (ix2 l i)) (val_main_v60 (F := Ideal) A B (ix2 l i)) ⊥ := by
  unfold val_main_v71
  generalize val_main_v58 (F := Ideal) A B = x
  generalize val_main_v60 (F := Ideal) A B = y
  rw [← neg_inf]
  pointwise [val_main_call9_v2, val_main_call9_v1, val_main_call9_v0, val_main_cst_17]
  rfl

theorem iota_raw (i : Fin 256) : val_main_call10_v1 (F := Ideal) (ix2 l i) = BitVec.ofNat 32 i := by
  pointwise [val_main_call10_v1, val_main_call10_v0]

theorem rows_idx_raw (i : Fin 256) : val_main_call11_v5 (F := Ideal) A B (ix3 l i 0)
    = Scalar.select (IntOp.cmpi .slt (val_main_v73 (F := Ideal) A B (ix2 l i)) 0#32)
        (IntOp.addi (val_main_v73 (F := Ideal) A B (ix2 l i)) 256#32) (val_main_v73 (F := Ideal) A B (ix2 l i)) := by
  unfold val_main_call11_v5 val_main_call11_v4 val_main_call11_v1 val_main_call11_v3
  generalize val_main_v73 (F := Ideal) A B = y
  pointwise [val_main_call11_v0, val_main_call11_c, val_main_call11_v2, val_main_call11_c_0]

theorem rows_mask_raw (i : Fin 256) : val_main_call11_v11 (F := Ideal) A B (ix3 l i 0)
    = IntOp.andi (IntOp.cmpi .sge (val_main_call11_v5 (F := Ideal) A B (ix3 l i 0)) 0#32)
        (IntOp.cmpi .sle (val_main_call11_v5 (F := Ideal) A B (ix3 l i 0)) (BitVec.ofNat 32 255)) := by
  unfold val_main_call11_v11 val_main_call11_v7 val_main_call11_v10
  generalize val_main_call11_v5 (F := Ideal) A B = y
  pointwise [val_main_call11_v6, val_main_call11_c_2, val_main_call11_v9, val_main_call11_v8, val_main_call11_c_1]

theorem v74_raw (i : Fin 256) (r : Fin 3) : val_main_v74 (F := Ideal) A B (ix3 l i r)
    = Scalar.select (val_main_call11_v12 (F := Ideal) A B (ix2 l i)) (val_main_call11_v13 (F := Ideal) A B (ix3 l i r))
        (val_main_call11_v15 (F := Ideal) (ix3 l i r)) := by
  unfold val_main_v74 val_main_call11_v14
  generalize val_main_call11_v12 (F := Ideal) A B = x
  generalize val_main_call11_v13 (F := Ideal) A B = y
  generalize val_main_call11_v15 (F := Ideal) = z
  pointwise

/-! ## A valid cell -/

section Values
variable {A B} (H : Good A B) (i : Fin 256)
include H

theorem v54_val (hv : thr < sc (simR A B l) i) : val_main_v54 (F := Ideal) A B (ix2 l i)
    = BitVec.ofNat 32 (cY (simR A B l) (i / 16) (i % 16) * 1024 + cX (simR A B l) (i / 16) (i % 16)) := by
  rw [v54_raw]
  exact v53_val H l _ _ hv

omit H in
theorem cell_lt : cY (simR A B l) (i / 16) (i % 16) < 1024 ∧ cX (simR A B l) (i / 16) (i % 16) < 1024 := by
  have S := cell_spec (simR A B l) (i / 16) (i % 16)
  have hy := S.hy
  have hx := S.hx
  omega

theorem v59_val (hv : thr < sc (simR A B l) i) : val_main_v59 (F := Ideal) A B (ix2 l i)
    = BitVec.ofNat 32 (cY (simR A B l) (i / 16) (i % 16) * 1024 + cX (simR A B l) (i / 16) (i % 16)) := by
  have hc := cell_lt (A := A) (B := B) l i
  rw [v59_raw, v54_val l H i hv]
  exact clip_word (by omega) (by decide)

theorem take_idx (hv : thr < sc (simR A B l) i) : val_main_call5_v5 (F := Ideal) A B (ix3 l i 0)
    = BitVec.ofNat 32 (cY (simR A B l) (i / 16) (i % 16) * 1024 + cX (simR A B l) (i / 16) (i % 16)) := by
  have hc := cell_lt (A := A) (B := B) l i
  rw [take_idx_raw, v59_val l H i hv]
  exact wrap_word (by omega) _

theorem v60_val (hv : thr < sc (simR A B l) i) : val_main_v60 (F := Ideal) A B (ix2 l i) = sc (simR A B l) i := by
  have hc := cell_lt (A := A) (B := B) l i
  have S := cell_spec (simR A B l) (i / 16) (i % 16)
  have hm : val_main_call5_v12 (F := Ideal) A B (ix2 l i) = 1#1 := by
    refine all_last _ l i ?_
    rw [take_mask_raw, take_idx l H i hv]
    exact range_word (by omega) (by decide)
  rw [val_main_v60_apply, hm]
  show val_main_call5_v13 (F := Ideal) A B (ix2 l i) = _
  refine (rowTake_apply Gen.gather_S8x1048576_S8x256x1_S8x256_n_1_0_0_1_2_11_wf _ _ l i _ (by omega) (by norm_num) (take_idx l H i hv)).trans ?_
  rw [v32_val A B H]
  simp only
  rw [show (cY (simR A B l) (i / 16) (i % 16) * 1024 + cX (simR A B l) (i / 16) (i % 16)) / 1024 = cY (simR A B l) (i / 16) (i % 16) by omega,
    show (cY (simR A B l) (i / 16) (i % 16) * 1024 + cX (simR A B l) (i / 16) (i % 16)) % 1024 = cX (simR A B l) (i / 16) (i % 16) by omega]
  exact congrArg _ S.hM

theorem v62_val (hv : thr < sc (simR A B l) i) : val_main_v62 (F := Ideal) A B (ix2 l i)
    = ((cX (simR A B l) (i / 16) (i % 16) : ℝ) : EReal) := by
  have hc := cell_lt (A := A) (B := B) l i
  have e : val_main_v61 (F := Ideal) A B (ix2 l i) = BitVec.ofNat 32 (cX (simR A B l) (i / 16) (i % 16)) := by
    refine (Routing.pyRem_ap Gen.bcast_S_S8x256 (val_main_v59 (F := Ideal) A B) (val_main_call6_v0 (F := Ideal)) (ix2 l i)
      (b := 1024) (v59_val l H i hv) rfl (by omega) (by decide) (by decide)).trans ?_
    congr 1
    omega
  rw [val_main_v62_apply, e]
  exact sitofp_nat (by omega)

theorem v64_val (hv : thr < sc (simR A B l) i) : val_main_v64 (F := Ideal) A B (ix2 l i)
    = ((cY (simR A B l) (i / 16) (i % 16) : ℝ) : EReal) := by
  have hc := cell_lt (A := A) (B := B) l i
  have e : val_main_v63 (F := Ideal) A B (ix2 l i) = BitVec.ofNat 32 (cY (simR A B l) (i / 16) (i % 16)) := by
    refine (Routing.pyDiv_ap Gen.bcast_S_S8x256 (val_main_v59 (F := Ideal) A B) (val_main_call7_v0 (F := Ideal)) (ix2 l i)
      (b := 1024) (v59_val l H i hv) rfl (by omega) (by decide) (by decide)).trans ?_
    congr 1
    omega
  rw [val_main_v64_apply, e]
  exact sitofp_nat (by omega)

theorem v70_val (r : Fin 3) : val_main_v70 (F := Ideal) A B (ix3 l i r) = point (simR A B l) i r := by
  rw [v70_raw, v58_val H]
  unfold point
  by_cases hv : thr < sc (simR A B l) i
  · rw [if_pos hv, decide_eq_true hv, v68_raw, v62_val l H i hv, v64_val l H i hv, v60_val l H i hv]
    rfl
  · rw [if_neg hv, decide_eq_false hv]
    rfl

/-! ## The order of a label's cells -/

theorem v71_val : val_main_v71 (F := Ideal) A B (ix2 l i) = if thr < sc (simR A B l) i then sc (simR A B l) i else ⊥ := by
  rw [v71_raw, v58_val H]
  by_cases hv : thr < sc (simR A B l) i
  · rw [if_pos hv, decide_eq_true hv, v60_val l H i hv]
    rfl
  · rw [if_neg hv, decide_eq_false hv]
    rfl

omit H in
/-- Any value below every valid one stands for the invalid cells. -/
theorem key_order (s : ℕ → ℕ → ℝ) (i j : Fin 256) : (if thr < sc s i then sc s i else ⊥) < (if thr < sc s j then sc s j else ⊥)
    ↔ key s i < key s j := by
  unfold key
  by_cases hi : thr < sc s i <;> by_cases hj : thr < sc s j
  · simp only [if_pos hi, if_pos hj]
  · simp only [if_pos hi, if_neg hj, not_lt_bot, false_iff, not_lt]
    exact (low_lt_thr.trans hi).le
  · simp only [if_neg hi, if_pos hj]
    exact iff_of_true (bot_le.trans_lt hj) (low_lt_thr.trans hj)
  · simp only [if_neg hi, if_neg hj, lt_self_iff_false]

theorem v73_val : val_main_v73 (F := Ideal) A B (ix2 l i) = BitVec.ofNat 32 (place (simR A B l) i) := by
  refine (sort2_row (comparator_f32_i32_d1 (F := Ideal)) (val_main_v72 (F := Ideal) A B) (val_main_call10_v1 (F := Ideal)) l i).trans ?_
  rw [iota_raw]
  refine congrArg (fun p : Fin 256 => BitVec.ofNat 32 p) ?_
  refine ((rank_eq_iff (fun k : Fin 256 => val_main_v71 (F := Ideal) A B (ix2 l k)) _ (fun k k' => ?_) (place (simR A B l) i) i).mp ?_).symm
  · rw [comparator_true, val_main_v72_apply, val_main_v72_apply]
    exact EReal.neg_lt_neg_iff
  · refine (rankOf_congr _ (fun k : Fin 256 => key (simR A B l) k) (fun k k' => ?_) _).trans ((place_iff _ _ _).mpr rfl)
    rw [v71_val l H, v71_val l H]
    exact key_order _ k k'

theorem rows_idx : val_main_call11_v5 (F := Ideal) A B (ix3 l i 0) = BitVec.ofNat 32 (place (simR A B l) i) := by
  rw [rows_idx_raw, v73_val l H]
  exact wrap_word (by omega) _

theorem v74_at (r : Fin 3) : val_main_v74 (F := Ideal) A B (ix3 l i r) = point (simR A B l) (place (simR A B l) i) r := by
  have hm : val_main_call11_v12 (F := Ideal) A B (ix2 l i) = 1#1 := by
    refine all_last _ l i ?_
    rw [rows_mask_raw, rows_idx l H]
    exact range_word (by omega) (by decide)
  have g := vecTake_apply Gen.gather_S8x256x3_S8x256x1_S8x256x3_2_1_0_0_1_2_113_wf (val_main_v70 (F := Ideal) A B)
    (val_main_call11_v5 (F := Ideal) A B) l i r (place (simR A B l) i : ℕ) (place (simR A B l) i).isLt (by norm_num) (rows_idx l H i)
  rw [Fin.eta] at g
  rw [v74_raw, hm]
  refine (select_one _ _).trans ?_
  unfold val_main_call11_v13
  rw [show gather_S8x256x3_S8x256x1_S8x256x3_2_1_0_0_1_2_113
    = vecTake 8 256 256 3 Gen.gather_S8x256x3_S8x256x1_S8x256x3_2_1_0_0_1_2_113_wf from rfl, g]
  exact v70_val l H _ r

end Values

theorem v74_val {A : ImgS.Idx → EReal} {B : RefS.Idx → EReal} (H : Good A B) : val_main_v74 (F := Ideal) A B = ptsOut A B := by
  funext i
  obtain ⟨l, j, r, rfl⟩ : ∃ l j r, i = ix3 l j r := ⟨i 0, i 1, i 2, eq_ix3 i⟩
  exact v74_at l H j r

end Cert.Proof

end
-- ==== Proof.RefValue.lean ====
/- What the reference's run leaves in its two results, and what the precondition says of the arguments. -/
module

public import proofs.«01_k».proof.Proof.RefBg
public import proofs.«01_k».proof.Proof.RefPoints
public import proofs.«01_k».proof.Proof.Gen.ReferenceIdeal.Run
public import proofs.«01_k».proof.Pre_pre
public import Idealize.ShloMosaic.Lib.ReduceAll
public import Idealize.ShloMosaic.Lib.Claim

@[expose] public section

set_option maxRecDepth 16384

noncomputable section

namespace Cert.Proof

open Idealize.ShloMosaic Idealize.SL.Sem

theorem preFacts : Cert.Pre_pre.Facts where
  reducesTo_S1x256x64x64_S1x64x64_d1 := by decide
  h_S_ := by decide
  bcast_S_S8x1x256 := by decide
  reducesTo_S8x1x256_S_d0_1_2 := by decide
  bcast_S_S1x64x64 := by decide
  reducesTo_S1x64x64_S_d0_1_2 := by decide

theorem real_of_abs (x : EReal) (h : FloatOps.cmpf (F := Ideal) (φ := .f32) .olt (max x (-x)) (Ideal.ofBits .f32 2139095040#32) = 1#1) : IsReal x := by
  rw [pos_inf] at h
  induction x using EReal.rec with
  | coe r => exact ⟨r, rfl⟩
  | bot => exact absurd (by simpa [FloatOps.cmpf, Ideal.cmp] using h) id
  | top => exact absurd (by simpa [FloatOps.cmpf, Ideal.cmp] using h) id

theorem pos_of_gt (x : EReal) (h : FloatOps.cmpf (F := Ideal) (φ := .f32) .ogt x (Ideal.ofBits .f32 0x00000000#32) = 1#1) : 0 < x := by
  rw [show Ideal.ofBits .f32 0x00000000#32 = 0 by simp [Ideal.ofBits, Ideal.ieee]] at h
  by_contra hn
  rw [show FloatOps.cmpf (F := Ideal) (φ := .f32) .ogt x 0 = BitVec.ofBool (decide (0 < x)) from rfl, decide_eq_false hn] at h
  exact absurd h (by decide)

section
attribute [local instance] preFacts
open Cert.Pre_pre

theorem pre_energy (A : ImgS.Idx → EReal) (a b : Fin 64) :
    Host.reduceAdd (F := Ideal) (mulf A A : FVec Ideal S1x256x64x64 .f32) (constant S_ .f32 0x00000000#32)
      Facts.reducesTo_S1x256x64x64_S1x64x64_d1 Facts.h_S_ (ix3 0 a b) = ∑ k : Fin 256, A (ix4 0 k a b) * A (ix4 0 k a b) := by
  pointwise

theorem pre_good (A : ImgS.Idx → EReal) (X : IVec S1x2 32) (B : RefS.Idx → EReal)
    (h : Cert.Pre_pre.fn (F := Ideal) A X B = fun _ => 1#1) : Good A B := by
  have h0 := congrFun h ix0
  obtain ⟨h1, h2⟩ := IntOp.andi_eq_one.1 h0
  refine ⟨fun l k => ?_, fun a b => ?_⟩
  · have e := Host.reduce_andi_all _ _ _ _ _ h1 (ix3 l 0 k)
    exact real_of_abs _ e
  · have e := Host.reduce_andi_all _ _ _ _ _ h2 (ix3 0 a b)
    rw [← pre_energy]
    exact pos_of_gt _ e

end

section
open Cert.ReferenceIdeal Idealize.ShloMosaic.StableHlo
variable (m : (ℓ : Loc nD τ sig) → Buf (Elt Ideal) ℓ) (ρ : Dev nD → PrngReg)

/-- The arguments of the reference, as plain arrays. -/
abbrev refA (c : Dev nD) : ImgS.Idx → EReal := m ((c.tc : Thread nD τ).loc main_arg0)
abbrev refB (c : Dev nD) : RefS.Idx → EReal := m ((c.tc : Thread nD τ).loc main_arg2)

theorem reference_run (H : ∀ c, Good (refA m c) (refB m c)) :
    θ_run (defs (F := Ideal)) (onTc (τ := τ) (main (F := Ideal))) ⟨m, fun _ => 0, ρ⟩ (fun r => ∀ c : Dev nD,
      (r.2.mem ((c.tc : Thread nD τ).loc main_v74) : S8x256x3.Idx → EReal) = ptsOut (refA m c) (refB m c)
      ∧ (r.2.mem ((c.tc : Thread nD τ).loc main_v41) : S8x1x2.Idx → EReal) = bgOut (refA m c) (refB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun r h c =>
      ⟨((h c).1.trans (Read.val_main_v74_eq (launchContents m c))).trans (v74_val (H c)),
       ((h c).2.1.trans (Read.val_main_v41_eq (launchContents m c))).trans (v41_val (H c)), (h c).2.2⟩)
    (Value.run (F := Ideal) m ρ)

end

end Cert.Proof

end
-- ==== Proof.LabelPoints.lean ====
/- The points of one label: the cells' points in the order of their ranks. -/
module

public import proofs.«01_k».proof.Proof.LabelValue

@[expose] public section

set_option maxRecDepth 16384

noncomputable section

namespace Cert.Proof

open Idealize.ShloMosaic Cert.KernelIdeal Cert.KernelIdeal.Gen

theorem sl_one (k : Fin 16) : S16x16.Slices ![(k : ℕ), 0] S1x16 := by revert k; decide

/-- Row `k` of a table of sixteen rows. -/
def rowOf {α : Type} (m : S16x16.Idx → α) (k : Fin 16) : S1x16.Idx → α := extractStridedSlice S1x16 ![(k : ℕ), 0] m (sl_one k)

theorem rowOf_apply {α : Type} (m : S16x16.Idx → α) (k h : Fin 16) : rowOf m k (ix2 0 h) = m (ix2 k h) := by
  unfold rowOf
  pointwise

theorem lKey_eq (m : FVec Ideal S16x16 .f32) : lKey m = concatenate S1x256 1 (List.ofFn fun k : Fin 16 => ⟨S1x16, rowOf m k⟩)
    concatenates_S1x16_S1x16_S1x16_S1x16_S1x16_S1x16_S1x16_S1x16_S1x16_S1x16_S1x16_S1x16_S1x16_S1x16_S1x16_S1x16_S1x256_d1 := rfl

theorem lIdx_eq (w : IVec S16x16 32) : k1_pay22 w = concatenate S1x256 1 (List.ofFn fun k : Fin 16 => ⟨S1x16, rowOf w k⟩)
    concatenates_S1x16_S1x16_S1x16_S1x16_S1x16_S1x16_S1x16_S1x16_S1x16_S1x16_S1x16_S1x16_S1x16_S1x16_S1x16_S1x16_S1x256_d1 := rfl

/-- A cell's row and column in the grid. -/
def gr (i : Fin 256) : Fin 16 := ⟨i / 16, by omega⟩
def gc (i : Fin 256) : Fin 16 := ⟨i % 16, by omega⟩

theorem lKey_val (m : FVec Ideal S16x16 .f32) (i : Fin 256) : lKey m (ix2 0 i) = m (ix2 (gr i) (gc i)) := by
  refine (congrFun (lKey_eq m) _).trans ((concatenate_ofFn_apply (t := S1x256) (s₁ := S1x16) 1 (rowOf m) _ rfl 16 rfl (ix2 0 i) (gr i)
    rfl (ix2 0 (gc i)) rfl ?_).trans (rowOf_apply m _ _))
  intro k hk
  fin_cases k
  · rfl
  · exact absurd rfl hk

theorem lIdx_val (w : IVec S16x16 32) (i : Fin 256) : k1_pay22 w (ix2 0 i) = w (ix2 (gr i) (gc i)) := by
  refine (congrFun (lIdx_eq w) _).trans ((concatenate_ofFn_apply (t := S1x256) (s₁ := S1x16) 1 (rowOf w) _ rfl 16 rfl (ix2 0 i) (gr i)
    rfl (ix2 0 (gc i)) rfl ?_).trans (rowOf_apply w _ _))
  intro k hk
  fin_cases k
  · rfl
  · exact absurd rfl hk

theorem sitofp_flag (p : Prop) [Decidable p] :
    FloatOps.sitofp (F := Ideal) .f32 (BitVec.setWidth 32 (BitVec.ofBool (decide p))) = if p then (1 : EReal) else 0 := by
  by_cases h : p
  · rw [decide_eq_true h, if_pos h]
    show (((BitVec.setWidth 32 (BitVec.ofBool true)).toInt : ℝ) : EReal) = 1
    rw [show (BitVec.setWidth 32 (BitVec.ofBool true)).toInt = 1 by decide]; simp
  · rw [decide_eq_false h, if_neg h]
    show (((BitVec.setWidth 32 (BitVec.ofBool false)).toInt : ℝ) : EReal) = 0
    rw [show (BitVec.setWidth 32 (BitVec.ofBool false)).toInt = 0 by decide]; simp

theorem flag_and (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem slt_word {a b : ℕ} (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  rw [Routing.slt_ofNat32 ha hb]

theorem eq_word {a b : ℕ} (ha : a < 2 ^ 31) (hb : b < 2 ^ 31) :
    IntOp.cmpi .eq (BitVec.ofNat 32 a) (BitVec.ofNat 32 b) = BitVec.ofBool (decide (a = b)) := by
  show BitVec.ofBool (decide (BitVec.ofNat 32 a = BitVec.ofNat 32 b)) = _
  congr 1
  refine decide_eq_decide.mpr ⟨fun h => ?_, fun h => h ▸ rfl⟩
  have := congrArg BitVec.toNat h
  simp only [BitVec.toNat_ofNat] at this
  omega

theorem pick (e l : Fin 16 → EReal) (f : Fin 16 → Fin 16 → EReal) (a b : Fin 16) (he : ∀ g, e g = if g = a then 1 else 0)
    (hl : ∀ h, l h = if h = b then 1 else 0) : (∑ x, (∑ y, e y * f y x) * l x) = f a b := by
  simp only [he, hl, ite_mul, mul_ite, one_mul, zero_mul, mul_one, mul_zero, Finset.sum_ite_eq', Finset.mem_univ, if_true]

section Points
variable (s : ℕ → ℕ → ℝ) (ii jj : IVec S256x256 32) (esel lsel : FVec Ideal S256x16 .f32) (m : FVec Ideal S16x16 .f32)
  (hi : ∀ a b : Fin 256, ii (ix2 a b) = BitVec.ofNat 32 a) (hj : ∀ a b : Fin 256, jj (ix2 a b) = BitVec.ofNat 32 b)
  (he : ∀ (a : Fin 256) (g : Fin 16), esel (ix2 a g) = if g = gr a then 1 else 0)
  (hl : ∀ (a : Fin 256) (h : Fin 16), lsel (ix2 a h) = if h = gc a then 1 else 0)
  (hm : ∀ g h : Fin 16, m (ix2 g h) = ((cM s g h : ℝ) : EReal))

include hm in
theorem lValid_val (i : Fin 256) : lValid m (ix2 0 i) = BitVec.ofBool (decide (thr < sc s i)) := by
  show Ideal.cmp .ogt (lKey m (ix2 0 i)) thr = _
  rw [lKey_val, hm]
  rfl

include hm in
theorem mask_val (i : Fin 256) : Scalar.select (lValid m (ix2 0 i)) (lKey m (ix2 0 i)) low = key s i := by
  rw [lValid_val s m hm, lKey_val, hm]
  unfold key Scalar.select
  by_cases h : thr < sc s i
  · rw [if_pos h, if_pos (by rw [decide_eq_true h]; rfl)]; rfl
  · rw [if_neg h, if_neg (by rw [decide_eq_false h]; decide)]

include hi hj he hl hm in
theorem ahead_val (i j : Fin 256) :
    k1_pay24 ii jj esel lsel m (k1_pay16 m) (k1_pay17 m) (k1_pay18 m) (k1_pay19 m) (k1_pay20 m) (ix2 i j)
      = if Ahead (fun i : Fin 256 => key s i) j i then 1 else 0 := by
  have hcol : (∑ x : Fin 16, (∑ y : Fin 16, esel (ix2 i y) * (if Ideal.ofBits .f32 1028443341#32 < m (ix2 y x) then m (ix2 y x)
      else Ideal.ofBits .f32 4048155338#32)) * lsel (ix2 i x)) = key s i := by
    rw [pick _ _ (fun y x => if Ideal.ofBits .f32 1028443341#32 < m (ix2 y x) then m (ix2 y x)
      else Ideal.ofBits .f32 4048155338#32) (gr i) (gc i) (he i) (hl i), hm]
    rfl
  pointwise [k1_pay24]
  have hmask := mask_val s m hm j
  simp only [lValid, lKey, low] at hmask
  rw [hcol, hmask, hi, hj, slt_word (by omega) (by omega), flag_and, sitofp_flag, sitofp_flag]
  by_cases h1 : key s i < key s j
  · rw [if_pos h1, if_neg (fun h => absurd h.1 h1.ne'), if_pos (show Ahead (fun i : Fin 256 => key s i) j i from .inl h1)]
    exact add_zero _
  · rw [if_neg h1]
    refine (zero_add _).trans (if_congr ?_ rfl rfl)
    simp only [Ahead, h1, false_or, Fin.lt_def]

include hi hj he hl hm in
theorem lPerm_val (i j : Fin 256) :
    lPerm ii jj esel lsel m (ix2 i j) = if rankOf (fun i : Fin 256 => key s i) i = j then 1 else 0 := by
  unfold lPerm
  have hs : (∑ x : Fin 256, k1_pay24 ii jj esel lsel m (k1_pay16 m) (k1_pay17 m) (k1_pay18 m) (k1_pay19 m) (k1_pay20 m) (ix2 i x))
      = ((rankOf (fun i : Fin 256 => key s i) i : ℝ) : EReal) := by
    simp only [ahead_val s ii jj esel lsel m hi hj he hl hm]
    rw [sum_ones]
    rfl
  have hr : rankOf (fun i : Fin 256 => key s i) i ≤ 256 := (Finset.card_le_univ _).trans_eq (by simp)
  generalize k1_pay24 ii jj esel lsel m (k1_pay16 m) (k1_pay17 m) (k1_pay18 m) (k1_pay19 m) (k1_pay20 m) = A at hs
  pointwise [k1_pay25]
  rw [hs, hj]
  refine (congrArg (fun w => FloatOps.sitofp (F := Ideal) .f32 (BitVec.setWidth 32 (IntOp.cmpi .eq w (BitVec.ofNat 32 j))))
    (fptosi_nat (n := rankOf (fun i : Fin 256 => key s i) i) (by omega))).trans ?_
  rw [eq_word (by omega) (by omega), sitofp_flag]

include hm in
theorem select_valid (i : Fin 256) (x : EReal) : Scalar.select (lValid m (ix2 0 i)) x neg1 = if thr < sc s i then x else neg1 := by
  rw [lValid_val s m hm]
  unfold Scalar.select
  by_cases h : thr < sc s i
  · rw [if_pos h, if_pos (by rw [decide_eq_true h]; rfl)]
  · rw [if_neg h, if_neg (by rw [decide_eq_false h]; decide)]

end Points

section All
variable (s : ℕ → ℕ → ℝ) (c : FVec Ideal S256x256 .f32) (fidx ii jj : IVec S256x256 32) (esel lsel : FVec Ideal S256x16 .f32)
  (hc : ∀ a b : Fin 256, c (ix2 a b) = ((umap s (cand a) (cand b) : ℝ) : EReal))
  (hf : ∀ a b : Fin 256, fidx (ix2 a b) = BitVec.ofNat 32 (cand a * 1024 + cand b))
  (hi : ∀ a b : Fin 256, ii (ix2 a b) = BitVec.ofNat 32 a) (hj : ∀ a b : Fin 256, jj (ix2 a b) = BitVec.ofNat 32 b)
  (he : ∀ (a : Fin 256) (g : Fin 16), esel (ix2 a g) = if g = gr a then 1 else 0)
  (hl : ∀ (a : Fin 256) (h : Fin 16), lsel (ix2 a h) = if h = gc a then 1 else 0)

include hc hf in
theorem idx_val (i : Fin 256) : k1_pay22 (lI c fidx) (ix2 0 i) = BitVec.ofNat 32 (cY s (i / 16 : ℕ) (i % 16 : ℕ) * 1024 + cX s (i / 16 : ℕ) (i % 16 : ℕ)) := by
  rw [lIdx_val, lI_val s c fidx hc hf]
  rfl

include hc hf in
theorem col_val (i : Fin 256) : k1_pay26 (F := Ideal) (k1_pay22 (lI c fidx)) (lValid (lM c)) (ix2 0 i) = point s i 0 := by
  have H := cell_spec s (i / 16 : ℕ) (i % 16 : ℕ)
  have hy := H.hy
  have hx := H.hx
  have hv := select_valid s (lM c) (lM_val s c hc) i
  have hn : cY s (i / 16 : ℕ) (i % 16 : ℕ) * 1024 + cX s (i / 16 : ℕ) (i % 16 : ℕ) < 2 ^ 31 := by omega
  have hidx := idx_val s c fidx hc hf i
  generalize lValid (lM c) = v at hv
  generalize k1_pay22 (lI c fidx) = w at hidx
  pointwise [k1_pay26]
  rw [show Scalar.select (Scalar.cmpi .eq 1024#32 0#32) 1#32 1024#32 = 1024#32 by decide, hidx]
  refine (hv _).trans (if_congr Iff.rfl ?_ rfl)
  refine (congrArg (fun w : BitVec 32 => ((w.toInt : ℝ) : EReal)) ((mod_form .vector hn _ _).trans (rem_word .vector hn))).trans ?_
  rw [toInt_word (by omega), show (cY s (i / 16 : ℕ) (i % 16 : ℕ) * 1024 + cX s (i / 16 : ℕ) (i % 16 : ℕ)) % 1024
    = cX s (i / 16 : ℕ) (i % 16 : ℕ) by omega]
  rfl

include hc hf in
theorem row_val (i : Fin 256) (y : BitVec 32) : FloatOps.sitofp (F := Ideal) .f32 (Scalar.select
      (IntOp.andi (k1_pay28 (k1_pay22 (lI c fidx)) (ix2 0 i)) (k1_pay29 (k1_pay22 (lI c fidx)) (ix2 0 i))) y
      (k1_pay27 (k1_pay22 (lI c fidx)) (ix2 0 i))) = ((cY s (i / 16 : ℕ) (i % 16 : ℕ) : ℝ) : EReal) := by
  have H := cell_spec s (i / 16 : ℕ) (i % 16 : ℕ)
  have hy := H.hy
  have hx := H.hx
  have hn : cY s (i / 16 : ℕ) (i % 16 : ℕ) * 1024 + cX s (i / 16 : ℕ) (i % 16 : ℕ) < 2 ^ 31 := by omega
  have hidx := idx_val s c fidx hc hf i
  generalize k1_pay22 (lI c fidx) = w at hidx
  pointwise [k1_pay27, k1_pay28, k1_pay29]
  rw [hidx]
  refine (congrArg (fun w : BitVec 32 => ((w.toInt : ℝ) : EReal)) ((div_form .vector hn _ _).trans (div_word .vector hn))).trans ?_
  rw [toInt_word (by omega), show (cY s (i / 16 : ℕ) (i % 16 : ℕ) * 1024 + cX s (i / 16 : ℕ) (i % 16 : ℕ)) / 1024
    = cY s (i / 16 : ℕ) (i % 16 : ℕ) by omega]
  rfl

include hc hf hi hj he hl in
/-- The points, in the order of their ranks. -/
theorem lPts_val (σ : Fin 256 → Fin 256) (hσ : ∀ i j : Fin 256, rankOf (fun i : Fin 256 => key s i) i = j ↔ i = σ j) (r : Fin 3)
    (j : Fin 256) : lPts fidx ii jj esel lsel c (ix2 r j) = point s (σ j) r := by
  have hp := lPerm_val s ii jj esel lsel (lM c) hi hj he hl (lM_val s c hc)
  have hv := select_valid s (lM c) (lM_val s c hc)
  have hx := col_val s c fidx hc hf
  have hy := row_val s c fidx hc hf
  have hk := lKey_val (lM c)
  unfold lPts
  generalize lPerm ii jj esel lsel (lM c) = p at hp
  generalize lValid (lM c) = v at hv hx
  generalize k1_pay26 (F := Ideal) (k1_pay22 (lI c fidx)) v = x at hx
  generalize k1_pay27 (k1_pay22 (lI c fidx)) = y at hy
  generalize k1_pay28 (k1_pay22 (lI c fidx)) = b at hy
  generalize k1_pay29 (k1_pay22 (lI c fidx)) = d at hy
  generalize lKey (lM c) = k at hk
  have hpt : ∀ (i : Fin 256), k (ix2 0 i) = sc s i := fun i => by rw [hk, lM_val s c hc]; rfl
  pointwise [k1_pay30]
  simp only [hp, hσ, mul_ite, mul_one, mul_zero, Finset.sum_ite_eq', Finset.mem_univ, if_true]
  fin_cases r
  · exact hx (σ j)
  · refine (hv _ _).trans (if_congr Iff.rfl ?_ rfl)
    exact hy _ _
  · refine (hv _ _).trans (if_congr Iff.rfl ?_ rfl)
    exact hpt _

end All

end Cert.Proof

end
-- ==== Proof.KernelLabel.lean ====
/- The second region's two results: each label's points and background point, from the region's inputs. -/
module

public import proofs.«01_k».proof.Proof.LabelPoints
public import Idealize.ShloMosaic.Lib.Pipeline.ValueKit

@[expose] public section

set_option maxRecDepth 16384

noncomputable section

namespace Cert.Proof

open Idealize.ShloMosaic Cert.KernelIdeal Cert.KernelIdeal.Gen

theorem lC_apply (z : FVec Ideal S512x256 .f32) (w : FVec Ideal S256x64 .f32) (l : Fin 8) (a b : Fin 256) :
    lC z w l (ix2 a b) = ∑ k : Fin 64, w (ix2 a k) * z (ix2 ⟨64 * l + k, by omega⟩ b) := by
  unfold lC
  pointwise

theorem z_apply (v0 : Vec Ideal S512x64 .f32) (v2 : Vec Ideal S64x256 .f32) (i : Fin 512) (b : Fin 256) :
    k1_pay2 v0 v2 (ix2 i b) = ∑ k : Fin 64, v0 (ix2 i k) * v2 (ix2 k b) := by
  pointwise [k1_pay2]

theorem fidx_apply (v5 : Vec Ideal S256x1 .i32) (v8 : Vec Ideal S1x256 .i32) (a b : Fin 256) :
    k1_pay3 (F := Ideal) v5 v8 (ix2 a b) = IntOp.addi (IntOp.muli (v5 (ix2 a 0)) 1024#32) (v8 (ix2 0 b)) := by
  pointwise [k1_pay3]

theorem esel_words : ∀ (a : Fin 256) (g : Fin 16), (k1_pay4 (ix2 a g)) = BitVec.ofBool (decide (g = gr a)) := by
  intro a g
  pointwise [k1_pay4]
  revert a g
  decide +kernel

theorem esel_val (a : Fin 256) (g : Fin 16) : k1_pay5 (F := Ideal) k1_pay4 (ix2 a g) = if g = gr a then 1 else 0 := by
  have h := esel_words a g
  generalize k1_pay4 = v at h
  pointwise [k1_pay5]
  rw [h, sitofp_flag]

section Region
variable (s : Fin 8 → ℕ → ℕ → ℝ) (x0 : Vec Ideal S512x64 .f32) (x1 : Vec Ideal S256x64 .f32) (x2 : Vec Ideal S64x256 .f32)
  (x3 : Vec Ideal S256x1 .i32) (x4 : Vec Ideal S1x256 .i32)
  (h0 : ∀ (l : Fin 8) (a b : Fin 64), x0 (ix2 ⟨64 * l + a, by omega⟩ b) = ((s l a b : ℝ) : EReal))
  (h1 : ∀ (a : Fin 256) (k : Fin 64), x1 (ix2 a k) = ((hat (cand a) k : ℝ) : EReal))
  (h2 : ∀ (k : Fin 64) (a : Fin 256), x2 (ix2 k a) = ((hat (cand a) k : ℝ) : EReal))
  (h3 : ∀ a : Fin 256, x3 (ix2 a 0) = BitVec.ofNat 32 (cand a))
  (h4 : ∀ a : Fin 256, x4 (ix2 0 a) = BitVec.ofNat 32 (cand a))

include h0 h1 h2 in
theorem map_val (l : Fin 8) (a b : Fin 256) :
    lC (k1_pay179 x0 x1 x2 x3 x4) (View.ld x1 r1_2) l (ix2 a b) = ((umap (s l) (cand a) (cand b) : ℝ) : EReal) := by
  rw [lC_apply, show View.ld x1 r1_2 = x1 from View.ld_unit_lit' _ x1 (by decide)]
  unfold k1_pay179
  rw [show View.ld x0 r1_0 = x0 from View.ld_unit_lit' _ x0 (by decide), show View.ld x2 r1_1 = x2 from View.ld_unit_lit' _ x2 (by decide)]
  simp only [z_apply, h0, h1, h2]
  unfold umap
  simp only [coe_sum, EReal.coe_mul]

include h3 h4 in
theorem fidx_val (a b : Fin 256) : k1_pay180 x0 x1 x2 x3 x4 (ix2 a b) = BitVec.ofNat 32 (cand a * 1024 + cand b) := by
  unfold k1_pay180
  rw [show View.ld x3 r1_3 = x3 from View.ld_unit_lit' _ x3 (by decide), show View.ld x4 r1_4 = x4 from View.ld_unit_lit' _ x4 (by decide),
    fidx_apply, h3, h4]
  show BitVec.ofNat 32 (cand a) * BitVec.ofNat 32 1024 + BitVec.ofNat 32 (cand b) = _
  rw [BitVec.ofNat_add, BitVec.ofNat_mul]

include h0 h1 h2 h3 h4 in
theorem gPts_val (l : Fin 8) (σ : Fin 256 → Fin 256)
    (hσ : ∀ i j : Fin 256, rankOf (fun i : Fin 256 => key (s l) i) i = j ↔ i = σ j) (r : Fin 3) (j : Fin 256) :
    gPts x0 x1 x2 x3 x4 l (ix2 r j) = point (s l) (σ j) r := by
  refine lPts_val (s l) _ _ _ _ _ _ (map_val s x0 x1 x2 x3 x4 h0 h1 h2 l) (fidx_val x0 x1 x2 x3 x4 h3 h4) ?_ ?_ esel_val ?_ σ hσ r j
  · intro a b
    unfold k1_pay177
    pointwise
  · intro a b
    unfold k1_pay178
    pointwise
  · intro a h
    unfold k1_pay182
    have hw : ∀ (a : Fin 256) (h : Fin 16), Scalar.select (IntOp.andi (IntOp.xori (IntOp.cmpi .slt (IntOp.remsi .vector (BitVec.ofNat 32 a) 16#32) 0#32)
        (IntOp.cmpi .slt 16#32 0#32)) (IntOp.cmpi .ne (IntOp.remsi .vector (BitVec.ofNat 32 a) 16#32) 0#32))
        (IntOp.addi (IntOp.remsi .vector (BitVec.ofNat 32 a) 16#32) 16#32) (IntOp.remsi .vector (BitVec.ofNat 32 a) 16#32)
        = BitVec.ofNat 32 (a % 16 : ℕ) := by decide +kernel
    pointwise [k1_pay6]
    rw [show Scalar.select (Scalar.cmpi .eq 16#32 0#32) 1#32 16#32 = 16#32 by decide]
    refine Eq.trans (congrArg (fun w => FloatOps.sitofp (F := Ideal) .f32 (BitVec.setWidth 32 (IntOp.cmpi .eq (BitVec.ofNat 32 h) w)))
      (hw a h)) ?_
    rw [eq_word (by omega) (by omega), sitofp_flag]
    refine if_congr ?_ rfl rfl
    rw [Fin.ext_iff]; rfl

include h0 h1 h2 h3 h4 in
theorem gBg_val (l : Fin 8) (r : Fin 2) :
    gBg x0 x1 x2 x3 x4 l (ix2 0 r) = ![((mX (s l) : ℝ) : EReal), ((mY (s l) : ℝ) : EReal)] r :=
  lBg_val (s l) _ _ (map_val s x0 x1 x2 x3 x4 h0 h1 h2 l) (fidx_val x0 x1 x2 x3 x4 h3 h4) r

include h0 h1 h2 h3 h4 in
/-- The region's first result. -/
theorem out_pts_val (σ : Fin 8 → Fin 256 → Fin 256)
    (hσ : ∀ (l : Fin 8) (i j : Fin 256), rankOf (fun i : Fin 256 => key (s l) i) i = j ↔ i = σ l j) (l : Fin 8) (r : Fin 3) (j : Fin 256) :
    out1_5 x0 x1 x2 x3 x4 (ix2 ⟨3 * l + r, by omega⟩ j) = point (s l) (σ l j) r := by
  have H := fun l => gPts_val s x0 x1 x2 x3 x4 h0 h1 h2 h3 h4 l (σ l) (hσ l)
  have E : ∀ (l' : Fin 8) (x : S3x256.Idx), 3 * (l : ℕ) + r = 3 * l' + (x 0 : ℕ) → (j : ℕ) = x 1 →
      gPts x0 x1 x2 x3 x4 l' x = point (s l) (σ l j) r := fun l' x e ej => by
    obtain ⟨r', j', rfl⟩ : ∃ (r' : Fin 3) (j' : Fin 256), x = ix2 r' j' := ⟨x 0, x 1, by funext k; fin_cases k <;> rfl⟩
    change 3 * (l : ℕ) + r = 3 * l' + (r' : ℕ) at e
    change (j : ℕ) = j' at ej
    obtain rfl : l' = l := Fin.ext (by omega)
    obtain rfl : r' = r := Fin.ext (by omega)
    obtain rfl : j = j' := Fin.ext ej
    exact H _ _ _
  rw [out_pts]
  clear H
  generalize gPts x0 x1 x2 x3 x4 = G at E
  generalize hv : point (s l) (σ l j) r = v at E
  generalize hy : (ix2 (⟨3 * l + r, by omega⟩ : Fin 24) j : S24x256.Idx) = y
  have y0 : (y 0 : ℕ) = 3 * l + r := by rw [← hy]; rfl
  have y1 : (y 1 : ℕ) = j := by rw [← hy]; rfl
  canon_tiles x h
  all_goals exact E _ _ (by simp only [Fin.val_zero] at *; omega) (by omega)

include h0 h1 h2 h3 h4 in
/-- The region's second result. -/
theorem out_bg_val (l : Fin 8) (r : Fin 2) :
    out1_6 x0 x1 x2 x3 x4 (ix2 l r) = ![((mX (s l) : ℝ) : EReal), ((mY (s l) : ℝ) : EReal)] r := by
  have H := gBg_val s x0 x1 x2 x3 x4 h0 h1 h2 h3 h4
  have E : ∀ (l' : Fin 8) (x : S1x2.Idx), (l : ℕ) = l' + (x 0 : ℕ) → (r : ℕ) = x 1 →
      gBg x0 x1 x2 x3 x4 l' x = ![((mX (s l) : ℝ) : EReal), ((mY (s l) : ℝ) : EReal)] r := fun l' x e ej => by
    obtain ⟨z', r', rfl⟩ : ∃ (z' : Fin 1) (r' : Fin 2), x = ix2 z' r' := ⟨x 0, x 1, by funext k; fin_cases k <;> rfl⟩
    change (l : ℕ) = l' + (z' : ℕ) at e
    change (r : ℕ) = r' at ej
    obtain rfl : z' = 0 := Subsingleton.elim _ _
    obtain rfl : l = l' := Fin.ext (by simpa using e)
    obtain rfl : r = r' := Fin.ext ej
    exact H _ _
  rw [out_bg]
  clear H
  generalize gBg x0 x1 x2 x3 x4 = G at E
  generalize hv : ![((mX (s l) : ℝ) : EReal), ((mY (s l) : ℝ) : EReal)] r = v at E
  generalize hy : (ix2 l r : S8x2.Idx) = y
  have y0 : (y 0 : ℕ) = l := by rw [← hy]; rfl
  have y1 : (y 1 : ℕ) = r := by rw [← hy]; rfl
  canon_tiles x h
  all_goals exact E _ _ (by simp only [Fin.val_zero] at *; omega) (by omega)

end Region

end Cert.Proof

end
-- ==== Proof.KernelArrays.lean ====
/- What the kernel's run leaves in its buffers, from the launch to the results. -/
module

public import proofs.«01_k».proof.Proof.KernelLabel
public import proofs.«01_k».proof.Proof.Spec
public import Idealize.ShloMosaic.Lib.Claim

@[expose] public section

set_option maxRecDepth 16384

noncomputable section

namespace Cert.Proof

open Idealize.ShloMosaic Idealize.SL.Sem Cert.KernelIdeal Cert.KernelIdeal.Gen

theorem sims_apply (v0 : Vec Ideal S256x4096 .f32) (v9 : Vec Ideal S8x256 .f32) (l : Fin 8) (p : Fin 4096) :
    k0_pay1 v0 v9 (ix2 l p) = simE (fun c => v9 (ix2 l c)) (fun c => v0 (ix2 c p)) := by
  pointwise [k0_pay1]
  rfl

section Arrays
open Idealize.ShloMosaic.TcCoe
variable (V : (c : Dev nD) → (b : Ref sig .tc) → Buf (Elt Ideal) ((c : Thread nD τ).loc b)) (c : Dev nD)

theorem idx0 : ∀ t : Fin cfg0.N, win0_0.index t = ![0, 0] ∧ win0_1.index t = ![0, 0] ∧ win0_2.index t = ![0, 0] :=
  (by decide +kernel : ∀ t : Fin grid0.N, _)

theorem idx1 : ∀ t : Fin cfg1.N, win1_0.index t = ![0, 0] ∧ win1_1.index t = ![0, 0] ∧ win1_2.index t = ![0, 0] ∧ win1_3.index t = ![0, 0]
    ∧ win1_4.index t = ![0, 0] ∧ win1_5.index t = ![0, 0] ∧ win1_6.index t = ![0, 0] :=
  (by decide +kernel : ∀ t : Fin grid1.N, _)

theorem blk0_0 : iblk0 V c 0 t0_0 = V c main_v1 := by blk_ext! [iblk0, idx0 t0_0]
theorem blk0_1 : iblk0 V c 1 t0_0 = V c main_v2 := by blk_ext! [iblk0, idx0 t0_0]
theorem blk1_0 : iblk1 V c 0 t1_0 = V c main_v4 := by blk_ext! [iblk1, idx1 t1_0]
theorem blk1_1 : iblk1 V c 1 t1_0 = V c main_cst := by blk_ext! [iblk1, idx1 t1_0]
theorem blk1_2 : iblk1 V c 2 t1_0 = V c main_cst_0 := by blk_ext! [iblk1, idx1 t1_0]
theorem blk1_3 : iblk1 V c 3 t1_0 = V c main_c := by blk_ext! [iblk1, idx1 t1_0]
theorem blk1_4 : iblk1 V c 4 t1_0 = V c main_c_1 := by blk_ext! [iblk1, idx1 t1_0]

/-- The first region's result. -/
theorem sims_final : (dat0 V c).arrAt 2 cfg0.N = k0_pay1 (F := Ideal) (V c main_v1) (V c main_v2) := by
  refine (dat0 V c).arrAt_eq_of_after_last 2 t0_0 (by decide +kernel) _ fun j => ?_
  blk_simp
  rw [after0_2]
  frame_out
  rw [blk0_0, blk0_1]

/-- The second region's results. -/
theorem pts_final : (dat1 V c).arrAt 5 cfg1.N
    = out1_5 (F := Ideal) (V c main_v4) (V c main_cst) (V c main_cst_0) (V c main_c) (V c main_c_1) := by
  refine (dat1 V c).arrAt_eq_of_after_last 5 t1_0 (by decide +kernel) _ fun j => ?_
  blk_simp
  rw [after1_5, blk1_0, blk1_1, blk1_2, blk1_3, blk1_4]

theorem bg_final : (dat1 V c).arrAt 6 cfg1.N
    = out1_6 (F := Ideal) (V c main_v4) (V c main_cst) (V c main_cst_0) (V c main_c) (V c main_c_1) := by
  refine (dat1 V c).arrAt_eq_of_after_last 6 t1_0 (by decide +kernel) _ fun j => ?_
  blk_simp
  rw [after1_6, blk1_0, blk1_1, blk1_2, blk1_3, blk1_4]

end Arrays

/-! ## The host's lines -/

section Host
variable (X : Valuation τ sig (Elt Ideal))

theorem host0_v1 (k : Fin 256) (p : Fin 4096) : StableHlo.after hostOps0 X (Proc.devRef .tc main_v1) (ix2 k p)
    = X (Proc.devRef .tc main_arg0) (ix4 0 k ⟨p / 64, by omega⟩ ⟨p % 64, by omega⟩) := by
  after_results
  pointwise

theorem host0_v2 (l : Fin 8) (k : Fin 256) : StableHlo.after hostOps0 X (Proc.devRef .tc main_v2) (ix2 l k)
    = X (Proc.devRef .tc main_arg2) (ix3 l 0 k) := by
  after_results
  pointwise

theorem host0_cst : StableHlo.after hostOps0 X (Proc.devRef .tc main_cst)
    = fun i => FloatOps.ofBits (F := Ideal) .f32 (lit0 (S256x64.rowMajor i)) := by
  after_results
  rfl

theorem host0_cst_0 : StableHlo.after hostOps0 X (Proc.devRef .tc main_cst_0)
    = fun i => FloatOps.ofBits (F := Ideal) .f32 (lit1 (S64x256.rowMajor i)) := by
  after_results
  rfl

theorem host0_c : StableHlo.after hostOps0 X (Proc.devRef .tc main_c) = fun i => lit2 (S256x1.rowMajor i) := by
  after_results
  rfl

theorem host0_c_1 : StableHlo.after hostOps0 X (Proc.devRef .tc main_c_1) = fun i => lit3 (S1x256.rowMajor i) := by
  after_results
  rfl

theorem host1_v4 (i : Fin 512) (b : Fin 64) : StableHlo.after hostOps1 X (Proc.devRef .tc main_v4) (ix2 i b)
    = X (Proc.devRef .tc main_v3) (ix2 ⟨i / 64, by omega⟩ ⟨i % 64 * 64 + b, by omega⟩) := by
  after_results
  pointwise

theorem host2_v7 (l : Fin 8) (j : Fin 256) (r : Fin 3) : StableHlo.after hostOps2 X (Proc.devRef .tc main_v7) (ix3 l j r)
    = X (Proc.devRef .tc main_v5_0) (ix2 ⟨3 * l + r, by omega⟩ j) := by
  after_results
  pointwise
  simp only [Nat.mul_comm]

theorem host2_v8 (l : Fin 8) (r : Fin 2) : StableHlo.after hostOps2 X (Proc.devRef .tc main_v8) (ix3 l 0 r)
    = X (Proc.devRef .tc main_v5_1) (ix2 l r) := by
  after_results
  pointwise

end Host

end Cert.Proof

end
-- ==== Proof.Literals.lean ====
/- The kernel's tables: the bilinear weights of the candidates and the candidates' rows and columns. -/
module

public import proofs.«01_k».proof.KernelIdeal
public import proofs.«01_k».proof.Proof.Hat

@[expose] public section

noncomputable section

namespace Cert.Proof

open Idealize.ShloMosaic

/-- The word of `n / 32`, for the numbers the tables hold. -/
def wordOf (n : ℕ) : BitVec 32 :=
  if n = 0 then 0#32 else if n = 1 then 0x3D000000#32 else if n = 15 then 0x3EF00000#32 else if n = 17 then 0x3F080000#32
  else if n = 31 then 0x3F780000#32 else 0x3F800000#32

/-- The numbers the tables hold. -/
def held (n : ℕ) : Prop := n = 0 ∨ n = 1 ∨ n = 15 ∨ n = 17 ∨ n = 31 ∨ n = 32

instance (n : ℕ) : Decidable (held n) := inferInstanceAs (Decidable (_ ∨ _))

theorem held_hatN : ∀ a : Fin 256, ∀ k : Fin 64, held (hatN (cand a) k) := by decide +kernel

set_option maxRecDepth 100000 in
theorem lit0_eq : ∀ a : Fin 256, ∀ k : Fin 64,
    Cert.KernelIdeal.lit0 ⟨64 * a + k, by omega⟩ = wordOf (hatN (cand a) k) := by decide +kernel

set_option maxRecDepth 100000 in
theorem lit1_eq : ∀ k : Fin 64, ∀ a : Fin 256,
    Cert.KernelIdeal.lit1 ⟨256 * k + a, by omega⟩ = wordOf (hatN (cand a) k) := by decide +kernel

set_option maxRecDepth 100000 in
theorem lit2_eq : ∀ a : Fin 256, Cert.KernelIdeal.lit2 a = BitVec.ofNat 32 (cand a) := by decide +kernel

set_option maxRecDepth 100000 in
theorem lit3_eq : ∀ a : Fin 256, Cert.KernelIdeal.lit3 a = BitVec.ofNat 32 (cand a) := by decide +kernel

end Cert.Proof

end
-- ==== Proof.Tables.lean ====
/- The words of the kernel's tables, read as numbers. -/
module

public import proofs.«01_k».proof.Proof.Literals
public import Mathlib.Tactic.NormNum

@[expose] public section

noncomputable section

namespace Cert.Proof

open Idealize.ShloMosaic

/-- The word of `n / 32` is read as `n / 32`. -/
theorem ofBits_wordOf (n : ℕ) (h : held n) : Ideal.ofBits .f32 (wordOf n) = (((n : ℝ) / 32 : ℝ) : EReal) := by
  rcases h with rfl | rfl | rfl | rfl | rfl | rfl <;>
    · simp [wordOf, Ideal.ofBits, Ideal.ieee]
      try (rw [← EReal.coe_mul]; norm_num)

theorem ofBits_hat (a : Fin 256) (k : Fin 64) : Ideal.ofBits .f32 (wordOf (hatN (cand a) k)) = ((hat (cand a) k : ℝ) : EReal) :=
  ofBits_wordOf _ (held_hatN a k)

end Cert.Proof

end
-- ==== Proof.KernelRun.lean ====
/- What the kernel's run leaves in its two results. -/
module

public import proofs.«01_k».proof.Proof.KernelArrays
public import proofs.«01_k».proof.Proof.Tables

@[expose] public section

set_option maxRecDepth 16384

noncomputable section

namespace Cert.Proof

open Idealize.ShloMosaic Idealize.ShloMosaic.TcCoe Idealize.ShloMosaic.Tactic
open Idealize.SL Idealize.SL.RA Idealize.SL.BI Idealize.SL.BI.BIBase Idealize.SL.BI.Laws Idealize.SL.ProofMode
open scoped Idealize.SL.BI
open Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ
variable (m : (ℓ : Loc nD τ sig) → Buf (Elt Ideal) ℓ) (ρ : Dev nD → PrngReg) (c : Dev nD)

/-- The arguments, as plain arrays. -/
abbrev argA : ImgS.Idx → EReal := m ((c : Thread nD τ).loc main_arg0)
abbrev argB : RefS.Idx → EReal := m ((c : Thread nD τ).loc main_arg2)

/-- The similarities, as the second region reads them. -/
theorem read_sims (H : Good (argA m c) (argB m c)) (l : Fin 8) (a b : Fin 64) :
    (W3 m ρ c (Proc.devRef .tc main_v4) : S512x64.Idx → EReal) (ix2 ⟨64 * l + a, by omega⟩ b)
      = ((simR (argA m c) (argB m c) l a b : ℝ) : EReal) := by
  refine (host1_v4 (W2 m ρ c) ⟨64 * l + a, by omega⟩ b).trans ?_
  rw [show W2 m ρ c (Proc.devRef .tc main_v3) = k0_pay1 (F := Ideal) (V1 m ρ c main_v1) (V1 m ρ c main_v2) from
    (W2_arr m ρ c 2).trans (sims_final (V1 m ρ) c)]
  rw [show (⟨(64 * l + a : ℕ) / 64, by omega⟩ : Fin 8) = l from Fin.ext (by simp; omega)]
  rw [sims_apply, ← H.sim l a b]
  refine congrArg₂ simE (funext fun k => host0_v2 (W0 m ρ c) l k) (funext fun k => (host0_v1 (W0 m ρ c) k _).trans ?_)
  refine congrArg (argA m c) ?_
  congr 1
  all_goals (apply Fin.ext; simp; try omega)

theorem read_cst (a : Fin 256) (k : Fin 64) :
    (W3 m ρ c (Proc.devRef .tc main_cst) : S256x64.Idx → EReal) (ix2 a k) = ((hat (cand a) k : ℝ) : EReal) := by
  rw [W3_of m ρ c main_cst (by decide), W2_of m ρ c main_cst (by decide)]
  refine (congrFun (host0_cst (W0 m ρ c)) _).trans ((congrArg _ ((congrArg lit0 (Fin.ext ?_)).trans (lit0_eq a k))).trans (ofBits_hat a k))
  rw [Shape.rowMajor_val_two]; simp [Nat.mul_comm]

theorem read_cst_0 (k : Fin 64) (a : Fin 256) :
    (W3 m ρ c (Proc.devRef .tc main_cst_0) : S64x256.Idx → EReal) (ix2 k a) = ((hat (cand a) k : ℝ) : EReal) := by
  rw [W3_of m ρ c main_cst_0 (by decide), W2_of m ρ c main_cst_0 (by decide)]
  refine (congrFun (host0_cst_0 (W0 m ρ c)) _).trans ((congrArg _ ((congrArg lit1 (Fin.ext ?_)).trans (lit1_eq k a))).trans (ofBits_hat a k))
  rw [Shape.rowMajor_val_two]; simp [Nat.mul_comm]

theorem read_c (a : Fin 256) :
    (W3 m ρ c (Proc.devRef .tc main_c) : S256x1.Idx → BitVec 32) (ix2 a 0) = BitVec.ofNat 32 (cand a) := by
  rw [W3_of m ρ c main_c (by decide), W2_of m ρ c main_c (by decide)]
  refine (congrFun (host0_c (W0 m ρ c)) _).trans ((congrArg lit2 (Fin.ext ?_)).trans (lit2_eq a))
  rw [Shape.rowMajor_val_two]; simp

theorem read_c_1 (a : Fin 256) :
    (W3 m ρ c (Proc.devRef .tc main_c_1) : S1x256.Idx → BitVec 32) (ix2 0 a) = BitVec.ofNat 32 (cand a) := by
  rw [W3_of m ρ c main_c_1 (by decide), W2_of m ρ c main_c_1 (by decide)]
  refine (congrFun (host0_c_1 (W0 m ρ c)) _).trans ((congrArg lit3 (Fin.ext ?_)).trans (lit3_eq a))
  rw [Shape.rowMajor_val_two]; simp

/-- The points the run leaves. -/
theorem final_pts (H : Good (argA m c) (argB m c)) :
    (W5 m ρ c (Proc.devRef .tc main_v7) : S8x256x3.Idx → EReal) = ptsOut (argA m c) (argB m c) := by
  funext i
  obtain ⟨l, j, r, rfl⟩ : ∃ l j r, i = ix3 l j r := ⟨i 0, i 1, i 2, eq_ix3 i⟩
  refine (host2_v7 (W4 m ρ c) l j r).trans ?_
  rw [show W4 m ρ c (Proc.devRef .tc main_v5_0) = _ from (W4_arr m ρ c 5).trans (pts_final (V3 m ρ) c)]
  exact out_pts_val (fun l => simR (argA m c) (argB m c) l) _ _ _ _ _ (fun l a b => read_sims m ρ c H l a b) (read_cst m ρ c)
    (read_cst_0 m ρ c) (read_c m ρ c) (read_c_1 m ρ c) (fun l => place (simR (argA m c) (argB m c) l)) (fun l i j => place_iff _ i j) l r j

/-- The background points the run leaves. -/
theorem final_bg (H : Good (argA m c) (argB m c)) :
    (W5 m ρ c (Proc.devRef .tc main_v8) : S8x1x2.Idx → EReal) = bgOut (argA m c) (argB m c) := by
  funext i
  obtain ⟨l, z, r, rfl⟩ : ∃ l z r, i = ix3 l z r := ⟨i 0, i 1, i 2, eq_ix3 i⟩
  obtain rfl : z = 0 := Subsingleton.elim _ _
  refine (host2_v8 (W4 m ρ c) l r).trans ?_
  rw [show W4 m ρ c (Proc.devRef .tc main_v5_1) = _ from (W4_arr m ρ c 6).trans (bg_final (V3 m ρ) c)]
  exact out_bg_val (fun l => simR (argA m c) (argB m c) l) _ _ _ _ _ (fun l a b => read_sims m ρ c H l a b) (read_cst m ρ c)
    (read_cst_0 m ρ c) (read_c m ρ c) (read_c_1 m ρ c) l r

set_option backward.isDefEq.respectTransparency.types false in
/-- The run: it ends with the two results as the specification has them and the arguments unchanged. -/
theorem kernel_run (H : ∀ c, Good (argA m c) (argB m c)) : θ_run defs (onTc (τ := τ) (main (F := Ideal))) ⟨m, fun _ => 0, ρ⟩ (fun r => ∀ c : Dev nD,
      (r.2.mem ((c.tc : Thread nD τ).loc main_v7) : S8x256x3.Idx → EReal) = ptsOut (argA m c) (argB m c)
      ∧ (r.2.mem ((c.tc : Thread nD τ).loc main_v8) : S8x1x2.Idx → EReal) = bgOut (argA m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => (fun c =>
      ⟨(h c _ (mem_uc main_v7 (by decide))).trans (final_pts m ρ c (H c)),
       (h c _ (mem_uc main_v8 (by decide))).trans (final_bg m ρ c (H c)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩))

end Cert.Proof

end
-- ==== Proof.lean ====
module

public import proofs.«01_k».proof.Proof.RefValue
public import proofs.«01_k».proof.Proof.KernelRun
public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

attribute [local instance] preFacts in
theorem algebraic : Cert.algebraic_KernelIdeal_ReferenceIdeal_pre_pre := fun m ρ m' ρ' hp hargs => by
  have H : ∀ c, Good (argA m c) (argB m c) := fun c => pre_good _ _ _ (hp c)
  have eA : ∀ c, refA m' c = argA m c := fun c => (hargs c).1
  have eB : ∀ c, refB m' c = argB m c := fun c => (hargs c).2.2
  refine ⟨fun c => ptsOut (argA m c) (argB m c), fun c => bgOut (argA m c) (argB m c), kernel_run m ρ H, ?_⟩
  refine (θ_run Cert.ReferenceIdeal.defs _ _).mono (fun r h c => ?_) (reference_run m' ρ' fun c => by rw [eA, eB]; exact H c)
  exact ⟨(h c).1.trans (by rw [eA, eB]), (h c).2.1.trans (by rw [eA, eB]), (h c).2.2⟩

theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, algebraic⟩

end Cert.Proof

end
